-- ==== Defs.lean ====
def Pre_Kernel [hPre_classes : Cert.Pre_classes.Facts] (m : (ℓ : Loc Cert.Kernel.nD Cert.Kernel.τ Cert.Kernel.sig) → Buf (Elt Bits) ℓ) : Prop :=
  ∀ c : Dev Cert.Kernel.nD,
    (Cert.Pre_classes.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_classes : Cert.Pre_classes.Facts] (m : (ℓ : Loc Cert.KernelIdeal.nD Cert.KernelIdeal.τ Cert.KernelIdeal.sig) → Buf (Elt Ideal) ℓ) : Prop :=
  ∀ c : Dev Cert.KernelIdeal.nD,
    (Cert.Pre_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_classes : Cert.Pre_classes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_classes : Cert.Pre_classes.Facts) (hPre_bounded : Cert.Pre_bounded.Facts),
    quiescent_Kernel (hKernel := hKernel) (hPre_classes := hPre_classes)
    ∧ quiescent_KernelIdeal (hKernelIdeal := hKernelIdeal) (hPre_classes := hPre_classes)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S16x1x512x512 : Shape := ⟨4, ![16, 1, 512, 512]⟩
abbrev S16x512x512 : Shape := ⟨3, ![16, 512, 512]⟩
abbrev S_ : Shape := ⟨0, ![]⟩

class Facts : Prop where
  shapeCasts_S16x1x512x512_S16x512x512 : S16x1x512x512.ShapeCasts S16x512x512
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x1x512x512 .f32) (main_arg1 : IVec S16x512x512 32) : IVec S_ 1 :=
  let main_v0 : FVec F S16x512x512 .f32 := shapeCast S16x512x512 main_arg0 shapeCasts_S16x1x512x512_S16x512x512
  let main_c : IVec S_ 32 := constantI S_ 32 0#32
  let main_v1 : IVec S16x512x512 32 := broadcastInDim S16x512x512 ![] bcast_S_S16x512x512 main_c
  let main_v2 : IVec S16x512x512 1 := cmpi .sge main_arg1 main_v1
  let main_c_0 : IVec S_ 32 := constantI S_ 32 19#32
  let main_v3 : IVec S16x512x512 32 := broadcastInDim S16x512x512 ![] bcast_S_S16x512x512 main_c_0
  let main_v4 : IVec S16x512x512 1 := cmpi .slt main_arg1 main_v3
  let main_v5 : IVec S16x512x512 1 := andi main_v2 main_v4
  let main_c_1 : IVec S_ 32 := constantI S_ 32 14#32
  let main_v6 : IVec S16x512x512 32 := broadcastInDim S16x512x512 ![] bcast_S_S16x512x512 main_c_1
  let main_v7 : IVec S16x512x512 1 := cmpi .ne main_arg1 main_v6
  let main_v8 : FVec F S16x512x512 .f32 := Host.absf main_v0
  let main_cst : FVec F S_ .f32 := constant S_ .f32 0x4E6E6B28#32
  let main_v9 : FVec F S16x512x512 .f32 := broadcastInDim S16x512x512 ![] bcast_S_S16x512x512 main_cst
  let main_v10 : IVec S16x512x512 1 := cmpf .ole main_v8 main_v9
  let main_v11 : IVec S16x512x512 1 := ori main_v7 main_v10
  let main_v12 : IVec S16x512x512 1 := andi main_v5 main_v11
  let main_c_2 : IVec S_ 1 := constantI S_ 1 1#1
  let main_v13 : IVec S_ 1 := (fun x v => Host.reduce IntOp.andi x v reducesTo_S16x512x512_S_d0_1_2 h_S_) main_v12 main_c_2
  main_v13
-- ==== Pre_classes.lean ====
abbrev S16x1x512x512 : Shape := ⟨4, ![16, 1, 512, 512]⟩
abbrev S16x512x512 : Shape := ⟨3, ![16, 512, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x1x512x512 .f32) (main_arg1 : IVec S16x512x512 32) : IVec S_ 1 :=
  let main_c : IVec S_ 32 := constantI S_ 32 0#32
  let main_v0 : IVec S16x512x512 32 := broadcastInDim S16x512x512 ![] bcast_S_S16x512x512 main_c
  let main_v1 : IVec S16x512x512 1 := cmpi .sge main_arg1 main_v0
  let main_c_0 : IVec S_ 32 := constantI S_ 32 19#32
  let main_v2 : IVec S16x512x512 32 := broadcastInDim S16x512x512 ![] bcast_S_S16x512x512 main_c_0
  let main_v3 : IVec S16x512x512 1 := cmpi .slt main_arg1 main_v2
  let main_v4 : IVec S16x512x512 1 := andi main_v1 main_v3
  let main_c_1 : IVec S_ 1 := constantI S_ 1 1#1
  let main_v5 : IVec S_ 1 := (fun x v => Host.reduce IntOp.andi x v reducesTo_S16x512x512_S_d0_1_2 h_S_) main_v4 main_c_1
  main_v5
-- ==== Kernel.lean ====
abbrev S16x1x512x512 : Shape := ⟨4, ![16, 1, 512, 512]⟩
abbrev S16x512x512 : Shape := ⟨3, ![16, 512, 512]⟩
abbrev S19 : Shape := ⟨1, ![19]⟩
abbrev S_ : Shape := ⟨0, ![]⟩
abbrev S13 : Shape := ⟨1, ![13]⟩
abbrev S64 : Shape := ⟨1, ![64]⟩
abbrev S1024 : Shape := ⟨1, ![1024]⟩
abbrev S32 : Shape := ⟨1, ![32]⟩
abbrev S8x512 : Shape := ⟨2, ![8, 512]⟩
abbrev S16 : Shape := ⟨1, ![16]⟩
abbrev S8192x512 : Shape := ⟨2, ![8192, 512]⟩
abbrev S1x16 : Shape := ⟨2, ![1, 16]⟩
abbrev S512 : Shape := ⟨1, ![512]⟩

abbrev nBuf : Table → Nat
  | .hbm => 44
  | .local .scVector .vmem => 7
  | _ => 0

abbrev bufTy : (tb : Table) → Fin (nBuf tb) → BufTy
  | .hbm, ⟨0, _⟩ => ⟨S16x1x512x512, .f32⟩
  | .hbm, ⟨1, _⟩ => ⟨S16x512x512, .i32⟩
  | .hbm, ⟨2, _⟩ => ⟨S19, .f32⟩
  | .hbm, ⟨3, _⟩ => ⟨S19, .f32⟩
  | .hbm, ⟨4, _⟩ => ⟨S_, .f32⟩
  | .hbm, ⟨5, _⟩ => ⟨S13, .f32⟩
  | .hbm, ⟨6, _⟩ => ⟨S_, .f32⟩
  | .hbm, ⟨7, _⟩ => ⟨S19, .f32⟩
  | .hbm, ⟨8, _⟩ => ⟨S19, .i1⟩
  | .hbm, ⟨9, _⟩ => ⟨S_, .f32⟩
  | .hbm, ⟨10, _⟩ => ⟨S19, .f32⟩
  | .hbm, ⟨11, _⟩ => ⟨S19, .f32⟩
  | .hbm, ⟨12, _⟩ => ⟨S19, .f32⟩
  | .hbm, ⟨13, _⟩ => ⟨S_, .f32⟩
  | .hbm, ⟨14, _⟩ => ⟨S_, .f32⟩
  | .hbm, ⟨15, _⟩ => ⟨S19, .f32⟩
  | .hbm, ⟨16, _⟩ => ⟨S19, .f32⟩
  | .hbm, ⟨17, _⟩ => ⟨S13, .f32⟩
  | .hbm, ⟨18, _⟩ => ⟨S_, .f32⟩
  | .hbm, ⟨19, _⟩ => ⟨S19, .f32⟩
  | .hbm, ⟨20, _⟩ => ⟨S19, .i1⟩
  | .hbm, ⟨21, _⟩ => ⟨S_, .f32⟩
  | .hbm, ⟨22, _⟩ => ⟨S19, .f32⟩
  | .hbm, ⟨23, _⟩ => ⟨S19, .f32⟩
  | .hbm, ⟨24, _⟩ => ⟨S19, .f32⟩
  | .hbm, ⟨25, _⟩ => ⟨S_, .f32⟩
  | .hbm, ⟨26, _⟩ => ⟨S_, .f32⟩
  | .hbm, ⟨27, _⟩ => ⟨S19, .f32⟩
  | .hbm, ⟨28, _⟩ => ⟨S19, .f32⟩
  | .hbm, ⟨29, _⟩ => ⟨S64, .f32⟩
  | .hbm, ⟨30, _⟩ => ⟨S1024, .f32⟩
  | .hbm, ⟨31, _⟩ => ⟨S512, .f32⟩
  | .hbm, ⟨32, _⟩ => ⟨S_, .f32⟩
  | .hbm, ⟨33, _⟩ => ⟨S_, .f32⟩
  | .hbm, ⟨34, _⟩ => ⟨S512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local .scVector .vmem, ⟨0, _⟩ => ⟨S32, .f32⟩
  | .local .scVector .vmem, ⟨1, _⟩ => ⟨S32, .f32⟩
  | .local .scVector .vmem, ⟨2, _⟩ => ⟨S8x512, .f32⟩
  | .local .scVector .vmem, ⟨3, _⟩ => ⟨S8x512, .f32⟩
  | .local .scVector .vmem, ⟨4, _⟩ => ⟨S8x512, .i32⟩
  | .local .scVector .vmem, ⟨5, _⟩ => ⟨S8x512, .i32⟩
  | .local .scVector .vmem, ⟨6, _⟩ => ⟨S16, .f32⟩
  | _, _ => ⟨S16x1x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_cst_2 : Ref sig .tc := ⟨.hbm, 6, rfl⟩
abbrev main_v1 : Ref sig .tc := ⟨.hbm, 7, rfl⟩
abbrev main_v2 : Ref sig .tc := ⟨.hbm, 8, rfl⟩
abbrev main_cst_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_4 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_cst_5 : Ref sig .tc := ⟨.hbm, 18, rfl⟩
abbrev main_v8 : Ref sig .tc := ⟨.hbm, 19, rfl⟩
abbrev main_v9 : Ref sig .tc := ⟨.hbm, 20, rfl⟩
abbrev main_cst_6 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_7 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev main_cst_9 : Ref sig .tc := ⟨.hbm, 35, rfl⟩
abbrev main_v19 : Ref sig .tc := ⟨.hbm, 36, rfl⟩
abbrev main_cst_10 : Ref sig .tc := ⟨.hbm, 37, rfl⟩
abbrev main_v20 : Ref sig .tc := ⟨.hbm, 38, rfl⟩
abbrev main_cst_11 : Ref sig .tc := ⟨.hbm, 39, rfl⟩
abbrev main_v21 : Ref sig .tc := ⟨.hbm, 40, rfl⟩
abbrev main_v22 : Ref sig .tc := ⟨.hbm, 41, rfl⟩
abbrev main_cst_12 : Ref sig .tc := ⟨.hbm, 42, rfl⟩
abbrev main_v23 : Ref sig .tc := ⟨.hbm, 43, rfl⟩
abbrev main_arg0_scv : Ref sig .scVector := ⟨.hbm, 0, rfl⟩
abbrev main_arg1_scv : Ref sig .scVector := ⟨.hbm, 1, rfl⟩
abbrev main_v14_scv : Ref sig .scVector := ⟨.hbm, 29, rfl⟩
abbrev main_v15_scv : Ref sig .scVector := ⟨.hbm, 30, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let c31_i32 : BitVec 32 := 31#32
  let v4 : BitVec 32 := Scalar.minsi c0_i32 c31_i32
  let c8_i32 : BitVec 32 := 8#32
  let v5 : BitVec 32 := Scalar.muli v4 c8_i32
  let v6 : BitVec 32 := Scalar.addi v2 v5
  let c0_i32_0 : BitVec 32 := 0#32
  ![v6.toNat, 0]
@[reducible] def k0_t1_loop : Scf.Loop 32 :=
  let c0_i32_4 : BitVec 32 := 0#32
  let c16_i32 : BitVec 32 := 16#32
  let v15 : BitVec 32 := Scalar.addi c0_i32_4 c16_i32
  let c1_i32 : BitVec 32 := 1#32
  ⟨c0_i32_4, v15, c1_i32⟩
def k0_off2 (i : grid0.Coords) (k0_t1 : Fin k0_t1_loop.trips) (c1_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_17 : BitVec 32 := 2#32
  let c0_i32_4 : BitVec 32 := 0#32
  let c1_i32 : BitVec 32 := 1#32
  let arg17 : BitVec 32 := Scf.iv c0_i32_4 c1_i32 k0_t1
  let v32 : BitVec 32 := Scalar.muli c2_i32_17 arg17
  let v33 : BitVec 32 := Scalar.addi v32 c1_i32_18
  let c31_i32_19 : BitVec 32 := 31#32
  let v34 : BitVec 32 := Scalar.minsi v33 c31_i32_19
  let c8_i32_20 : BitVec 32 := 8#32
  let v35 : BitVec 32 := Scalar.muli v34 c8_i32_20
  let v36 : BitVec 32 := Scalar.addi v2 v35
  let c0_i32_21 : BitVec 32 := 0#32
  ![v36.toNat, 0]
@[reducible] def k0_t2_loop : Scf.Loop 32 :=
  let c0_i32_33 : BitVec 32 := 0#32
  let c16_i32_34 : BitVec 32 := 16#32
  let v53 : BitVec 32 := Scalar.addi c0_i32_33 c16_i32_34
  let c1_i32_35 : BitVec 32 := 1#32
  ⟨c0_i32_33, v53, c1_i32_35⟩
def k0_off3 (k0_t2 : Fin k0_t2_loop.trips) : Fin 2 → Nat :=
  let c0_i32_114 : BitVec 32 := 0#32
  let v108 : Index := Scalar.indexCast c0_i32_114
  let c0_i32_112 : BitVec 32 := 0#32
  let c0_i32_33 : BitVec 32 := 0#32
  let c1_i32_35 : BitVec 32 := 1#32
  let arg22 : BitVec 32 := Scf.iv c0_i32_33 c1_i32_35 k0_t2
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![0, v109.toNat]

def k0_chk1 (v110 : IVec S16 32) : Prop :=
  (∀ a x, ((![v110] : Fin 1 → IVec S16 32) a x).toNat < S32.size a) ∧
  (∀ a x, ((![v110] : Fin 1 → IVec S16 32) a x).toNat < S32.size a)
theorem k0_idx1_inb : ∀ (v110 : IVec S16 32) (k0_hw1 : k0_chk1 v110), ∀ a x, ((![v110] : Fin 1 → IVec S16 32) a x).toNat < S32.size a := fun v110 k0_hw1 => k0_hw1.1
theorem k0_idx2_inb : ∀ (v110 : IVec S16 32) (k0_hw1 : k0_chk1 v110), ∀ a x, ((![v110] : Fin 1 → IVec S16 32) a x).toNat < S32.size a := fun v110 k0_hw1 => k0_hw1.2
def k0_off4 (k0_t2 : Fin k0_t2_loop.trips) : Fin 2 → Nat :=
  let c0_i32_122 : BitVec 32 := 0#32
  let v130 : Index := Scalar.indexCast c0_i32_122
  let c0_i32_112 : BitVec 32 := 0#32
  let c0_i32_33 : BitVec 32 := 0#32
  let c1_i32_35 : BitVec 32 := 1#32
  let arg22 : BitVec 32 := Scf.iv c0_i32_33 c1_i32_35 k0_t2
  let c32_i32 : BitVec 32 := 32#32
  let v105 : BitVec 32 := Scalar.muli arg22 c32_i32
  let v106 : BitVec 32 := Scalar.addi c0_i32_112 v105
  let c16_i32_121 : BitVec 32 := 16#32
  let v129 : BitVec 32 := Scalar.addi v106 c16_i32_121
  let v131 : Index := Scalar.indexCast v129
  ![0, v131.toNat]

def k0_chk2 (v132 : IVec S16 32) : Prop :=
  (∀ a x, ((![v132] : Fin 1 → IVec S16 32) a x).toNat < S32.size a) ∧
  (∀ a x, ((![v132] : Fin 1 → IVec S16 32) a x).toNat < S32.size a)
theorem k0_idx3_inb : ∀ (v132 : IVec S16 32) (k0_hw2 : k0_chk2 v132), ∀ a x, ((![v132] : Fin 1 → IVec S16 32) a x).toNat < S32.size a := fun v132 k0_hw2 => k0_hw2.1
theorem k0_idx4_inb : ∀ (v132 : IVec S16 32) (k0_hw2 : k0_chk2 v132), ∀ a x, ((![v132] : Fin 1 → IVec S16 32) a x).toNat < S32.size a := fun v132 k0_hw2 => k0_hw2.2
@[reducible] def k0_t3_loop : Scf.Loop 32 :=
  let c0_i32_37 : BitVec 32 := 0#32
  let c16_i32_38 : BitVec 32 := 16#32
  let v55 : BitVec 32 := Scalar.addi c0_i32_37 c16_i32_38
  let c1_i32_39 : BitVec 32 := 1#32
  ⟨c0_i32_37, v55, c1_i32_39⟩
def k0_off5 (k0_t3 : Fin k0_t3_loop.trips) : Fin 2 → Nat :=
  let c1_i32_114 : BitVec 32 := 1#32
  let v108 : Index := Scalar.indexCast c1_i32_114
  let c0_i32_112 : BitVec 32 := 0#32
  let c0_i32_37 : BitVec 32 := 0#32
  let c1_i32_39 : BitVec 32 := 1#32
  let arg22 : BitVec 32 := Scf.iv c0_i32_37 c1_i32_39 k0_t3
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![1, v109.toNat]

def k0_chk3 (v110 : IVec S16 32) : Prop :=
  (∀ a x, ((![v110] : Fin 1 → IVec S16 32) a x).toNat < S32.size a) ∧
  (∀ a x, ((![v110] : Fin 1 → IVec S16 32) a x).toNat < S32.size a)
theorem k0_idx5_inb : ∀ (v110 : IVec S16 32) (k0_hw3 : k0_chk3 v110), ∀ a x, ((![v110] : Fin 1 → IVec S16 32) a x).toNat < S32.size a := fun v110 k0_hw3 => k0_hw3.1
theorem k0_idx6_inb : ∀ (v110 : IVec S16 32) (k0_hw3 : k0_chk3 v110), ∀ a x, ((![v110] : Fin 1 → IVec S16 32) a x).toNat < S32.size a := fun v110 k0_hw3 => k0_hw3.2
def k0_off6 (k0_t3 : Fin k0_t3_loop.trips) : Fin 2 → Nat :=
  let c1_i32_122 : BitVec 32 := 1#32
  let v130 : Index := Scalar.indexCast c1_i32_122
  let c0_i32_112 : BitVec 32 := 0#32
  let c0_i32_37 : BitVec 32 := 0#32
  let c1_i32_39 : BitVec 32 := 1#32
  let arg22 : BitVec 32 := Scf.iv c0_i32_37 c1_i32_39 k0_t3
  let c32_i32 : BitVec 32 := 32#32
  let v105 : BitVec 32 := Scalar.muli arg22 c32_i32
  let v106 : BitVec 32 := Scalar.addi c0_i32_112 v105
  let c16_i32_121 : BitVec 32 := 16#32
  let v129 : BitVec 32 := Scalar.addi v106 c16_i32_121
  let v131 : Index := Scalar.indexCast v129
  ![1, v131.toNat]

def k0_chk4 (v132 : IVec S16 32) : Prop :=
  (∀ a x, ((![v132] : Fin 1 → IVec S16 32) a x).toNat < S32.size a) ∧
  (∀ a x, ((![v132] : Fin 1 → IVec S16 32) a x).toNat < S32.size a)
theorem k0_idx7_inb : ∀ (v132 : IVec S16 32) (k0_hw4 : k0_chk4 v132), ∀ a x, ((![v132] : Fin 1 → IVec S16 32) a x).toNat < S32.size a := fun v132 k0_hw4 => k0_hw4.1
theorem k0_idx8_inb : ∀ (v132 : IVec S16 32) (k0_hw4 : k0_chk4 v132), ∀ a x, ((![v132] : Fin 1 → IVec S16 32) a x).toNat < S32.size a := fun v132 k0_hw4 => k0_hw4.2
@[reducible] def k0_t4_loop : Scf.Loop 32 :=
  let c0_i32_41 : BitVec 32 := 0#32
  let c16_i32_42 : BitVec 32 := 16#32
  let v57 : BitVec 32 := Scalar.addi c0_i32_41 c16_i32_42
  let c1_i32_43 : BitVec 32 := 1#32
  ⟨c0_i32_41, v57, c1_i32_43⟩
def k0_off7 (k0_t4 : Fin k0_t4_loop.trips) : Fin 2 → Nat :=
  let c2_i32_114 : BitVec 32 := 2#32
  let v108 : Index := Scalar.indexCast c2_i32_114
  let c0_i32_112 : BitVec 32 := 0#32
  let c0_i32_41 : BitVec 32 := 0#32
  let c1_i32_43 : BitVec 32 := 1#32
  let arg22 : BitVec 32 := Scf.iv c0_i32_41 c1_i32_43 k0_t4
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![2, v109.toNat]

def k0_chk5 (v110 : IVec S16 32) : Prop :=
  (∀ a x, ((![v110] : Fin 1 → IVec S16 32) a x).toNat < S32.size a) ∧
  (∀ a x, ((![v110] : Fin 1 → IVec S16 32) a x).toNat < S32.size a)
theorem k0_idx9_inb : ∀ (v110 : IVec S16 32) (k0_hw5 : k0_chk5 v110), ∀ a x, ((![v110] : Fin 1 → IVec S16 32) a x).toNat < S32.size a := fun v110 k0_hw5 => k0_hw5.1
theorem k0_idx10_inb : ∀ (v110 : IVec S16 32) (k0_hw5 : k0_chk5 v110), ∀ a x, ((![v110] : Fin 1 → IVec S16 32) a x).toNat < S32.size a := fun v110 k0_hw5 => k0_hw5.2
def k0_off8 (k0_t4 : Fin k0_t4_loop.trips) : Fin 2 → Nat :=
  let c2_i32_122 : BitVec 32 := 2#32
  let v130 : Index := Scalar.indexCast c2_i32_122
  let c0_i32_112 : BitVec 32 := 0#32
  let c0_i32_41 : BitVec 32 := 0#32
  let c1_i32_43 : BitVec 32 := 1#32
  let arg22 : BitVec 32 := Scf.iv c0_i32_41 c1_i32_43 k0_t4
  let c32_i32 : BitVec 32 := 32#32
  let v105 : BitVec 32 := Scalar.muli arg22 c32_i32
  let v106 : BitVec 32 := Scalar.addi c0_i32_112 v105
  let c16_i32_121 : BitVec 32 := 16#32
  let v129 : BitVec 32 := Scalar.addi v106 c16_i32_121
  let v131 : Index := Scalar.indexCast v129
  ![2, v131.toNat]

def k0_chk6 (v132 : IVec S16 32) : Prop :=
  (∀ a x, ((![v132] : Fin 1 → IVec S16 32) a x).toNat < S32.size a) ∧
  (∀ a x, ((![v132] : Fin 1 → IVec S16 32) a x).toNat < S32.size a)
theorem k0_idx11_inb : ∀ (v132 : IVec S16 32) (k0_hw6 : k0_chk6 v132), ∀ a x, ((![v132] : Fin 1 → IVec S16 32) a x).toNat < S32.size a := fun v132 k0_hw6 => k0_hw6.1
theorem k0_idx12_inb : ∀ (v132 : IVec S16 32) (k0_hw6 : k0_chk6 v132), ∀ a x, ((![v132] : Fin 1 → IVec S16 32) a x).toNat < S32.size a := fun v132 k0_hw6 => k0_hw6.2
@[reducible] def k0_t5_loop : Scf.Loop 32 :=
  let c0_i32_45 : BitVec 32 := 0#32
  let c16_i32_46 : BitVec 32 := 16#32
  let v59 : BitVec 32 := Scalar.addi c0_i32_45 c16_i32_46
  let c1_i32_47 : BitVec 32 := 1#32
  ⟨c0_i32_45, v59, c1_i32_47⟩
def k0_off9 (k0_t5 : Fin k0_t5_loop.trips) : Fin 2 → Nat :=
  let c3_i32 : BitVec 32 := 3#32
  let v108 : Index := Scalar.indexCast c3_i32
  let c0_i32_112 : BitVec 32 := 0#32
  let c0_i32_45 : BitVec 32 := 0#32
  let c1_i32_47 : BitVec 32 := 1#32
  let arg22 : BitVec 32 := Scf.iv c0_i32_45 c1_i32_47 k0_t5
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![3, v109.toNat]

def k0_chk7 (v110 : IVec S16 32) : Prop :=
  (∀ a x, ((![v110] : Fin 1 → IVec S16 32) a x).toNat < S32.size a) ∧
  (∀ a x, ((![v110] : Fin 1 → IVec S16 32) a x).toNat < S32.size a)
theorem k0_idx13_inb : ∀ (v110 : IVec S16 32) (k0_hw7 : k0_chk7 v110), ∀ a x, ((![v110] : Fin 1 → IVec S16 32) a x).toNat < S32.size a := fun v110 k0_hw7 => k0_hw7.1
theorem k0_idx14_inb : ∀ (v110 : IVec S16 32) (k0_hw7 : k0_chk7 v110), ∀ a x, ((![v110] : Fin 1 → IVec S16 32) a x).toNat < S32.size a := fun v110 k0_hw7 => k0_hw7.2
def k0_off10 (k0_t5 : Fin k0_t5_loop.trips) : Fin 2 → Nat :=
  let c3_i32_121 : BitVec 32 := 3#32
  let v130 : Index := Scalar.indexCast c3_i32_121
  let c0_i32_112 : BitVec 32 := 0#32
  let c0_i32_45 : BitVec 32 := 0#32
  let c1_i32_47 : BitVec 32 := 1#32
  let arg22 : BitVec 32 := Scf.iv c0_i32_45 c1_i32_47 k0_t5
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![3, v131.toNat]

def k0_chk8 (v132 : IVec S16 32) : Prop :=
  (∀ a x, ((![v132] : Fin 1 → IVec S16 32) a x).toNat < S32.size a) ∧
  (∀ a x, ((![v132] : Fin 1 → IVec S16 32) a x).toNat < S32.size a)
theorem k0_idx15_inb : ∀ (v132 : IVec S16 32) (k0_hw8 : k0_chk8 v132), ∀ a x, ((![v132] : Fin 1 → IVec S16 32) a x).toNat < S32.size a := fun v132 k0_hw8 => k0_hw8.1
theorem k0_idx16_inb : ∀ (v132 : IVec S16 32) (k0_hw8 : k0_chk8 v132), ∀ a x, ((![v132] : Fin 1 → IVec S16 32) a x).toNat < S32.size a := fun v132 k0_hw8 => k0_hw8.2
@[reducible] def k0_t6_loop : Scf.Loop 32 :=
  let c0_i32_49 : BitVec 32 := 0#32
  let c16_i32_50 : BitVec 32 := 16#32
  let v61 : BitVec 32 := Scalar.addi c0_i32_49 c16_i32_50
  let c1_i32_51 : BitVec 32 := 1#32
  ⟨c0_i32_49, v61, c1_i32_51⟩
def k0_off11 (k0_t6 : Fin k0_t6_loop.trips) : Fin 2 → Nat :=
  let c4_i32 : BitVec 32 := 4#32
  let v108 : Index := Scalar.indexCast c4_i32
  let c0_i32_112 : BitVec 32 := 0#32
  let c0_i32_49 : BitVec 32 := 0#32
  let c1_i32_51 : BitVec 32 := 1#32
  let arg22 : BitVec 32 := Scf.iv c0_i32_49 c1_i32_51 k0_t6
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![4, v109.toNat]

def k0_chk9 (v110 : IVec S16 32) : Prop :=
  (∀ a x, ((![v110] : Fin 1 → IVec S16 32) a x).toNat < S32.size a) ∧
  (∀ a x, ((![v110] : Fin 1 → IVec S16 32) a x).toNat < S32.size a)
theorem k0_idx17_inb : ∀ (v110 : IVec S16 32) (k0_hw9 : k0_chk9 v110), ∀ a x, ((![v110] : Fin 1 → IVec S16 32) a x).toNat < S32.size a := fun v110 k0_hw9 => k0_hw9.1
theorem k0_idx18_inb : ∀ (v110 : IVec S16 32) (k0_hw9 : k0_chk9 v110), ∀ a x, ((![v110] : Fin 1 → IVec S16 32) a x).toNat < S32.size a := fun v110 k0_hw9 => k0_hw9.2
def k0_off12 (k0_t6 : Fin k0_t6_loop.trips) : Fin 2 → Nat :=
  let c4_i32_121 : BitVec 32 := 4#32
  let v130 : Index := Scalar.indexCast c4_i32_121
  let c0_i32_112 : BitVec 32 := 0#32
  let c0_i32_49 : BitVec 32 := 0#32
  let c1_i32_51 : BitVec 32 := 1#32
  let arg22 : BitVec 32 := Scf.iv c0_i32_49 c1_i32_51 k0_t6
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![4, v131.toNat]

def k0_chk10 (v132 : IVec S16 32) : Prop :=
  (∀ a x, ((![v132] : Fin 1 → IVec S16 32) a x).toNat < S32.size a) ∧
  (∀ a x, ((![v132] : Fin 1 → IVec S16 32) a x).toNat < S32.size a)
theorem k0_idx19_inb : ∀ (v132 : IVec S16 32) (k0_hw10 : k0_chk10 v132), ∀ a x, ((![v132] : Fin 1 → IVec S16 32) a x).toNat < S32.size a := fun v132 k0_hw10 => k0_hw10.1
theorem k0_idx20_inb : ∀ (v132 : IVec S16 32) (k0_hw10 : k0_chk10 v132), ∀ a x, ((![v132] : Fin 1 → IVec S16 32) a x).toNat < S32.size a := fun v132 k0_hw10 => k0_hw10.2
@[reducible] def k0_t7_loop : Scf.Loop 32 :=
  let c0_i32_53 : BitVec 32 := 0#32
  let c16_i32_54 : BitVec 32 := 16#32
  let v63 : BitVec 32 := Scalar.addi c0_i32_53 c16_i32_54
  let c1_i32_55 : BitVec 32 := 1#32
  ⟨c0_i32_53, v63, c1_i32_55⟩
def k0_off13 (k0_t7 : Fin k0_t7_loop.trips) : Fin 2 → Nat :=
  let c5_i32 : BitVec 32 := 5#32
  let v108 : Index := Scalar.indexCast c5_i32
  let c0_i32_112 : BitVec 32 := 0#32
  let c0_i32_53 : BitVec 32 := 0#32
  let c1_i32_55 : BitVec 32 := 1#32
  let arg22 : BitVec 32 := Scf.iv c0_i32_53 c1_i32_55 k0_t7
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![5, v109.toNat]

def k0_chk11 (v110 : IVec S16 32) : Prop :=
  (∀ a x, ((![v110] : Fin 1 → IVec S16 32) a x).toNat < S32.size a) ∧
  (∀ a x, ((![v110] : Fin 1 → IVec S16 32) a x).toNat < S32.size a)
theorem k0_idx21_inb : ∀ (v110 : IVec S16 32) (k0_hw11 : k0_chk11 v110), ∀ a x, ((![v110] : Fin 1 → IVec S16 32) a x).toNat < S32.size a := fun v110 k0_hw11 => k0_hw11.1
theorem k0_idx22_inb : ∀ (v110 : IVec S16 32) (k0_hw11 : k0_chk11 v110), ∀ a x, ((![v110] : Fin 1 → IVec S16 32) a x).toNat < S32.size a := fun v110 k0_hw11 => k0_hw11.2
def k0_off14 (k0_t7 : Fin k0_t7_loop.trips) : Fin 2 → Nat :=
  let c5_i32_121 : BitVec 32 := 5#32
  let v130 : Index := Scalar.indexCast c5_i32_121
  let c0_i32_112 : BitVec 32 := 0#32
  let c0_i32_53 : BitVec 32 := 0#32
  let c1_i32_55 : BitVec 32 := 1#32
  let arg22 : BitVec 32 := Scf.iv c0_i32_53 c1_i32_55 k0_t7
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![5, v131.toNat]

def k0_chk12 (v132 : IVec S16 32) : Prop :=
  (∀ a x, ((![v132] : Fin 1 → IVec S16 32) a x).toNat < S32.size a) ∧
  (∀ a x, ((![v132] : Fin 1 → IVec S16 32) a x).toNat < S32.size a)
theorem k0_idx23_inb : ∀ (v132 : IVec S16 32) (k0_hw12 : k0_chk12 v132), ∀ a x, ((![v132] : Fin 1 → IVec S16 32) a x).toNat < S32.size a := fun v132 k0_hw12 => k0_hw12.1
theorem k0_idx24_inb : ∀ (v132 : IVec S16 32) (k0_hw12 : k0_chk12 v132), ∀ a x, ((![v132] : Fin 1 → IVec S16 32) a x).toNat < S32.size a := fun v132 k0_hw12 => k0_hw12.2
@[reducible] def k0_t8_loop : Scf.Loop 32 :=
  let c0_i32_57 : BitVec 32 := 0#32
  let c16_i32_58 : BitVec 32 := 16#32
  let v65 : BitVec 32 := Scalar.addi c0_i32_57 c16_i32_58
  let c1_i32_59 : BitVec 32 := 1#32
  ⟨c0_i32_57, v65, c1_i32_59⟩
def k0_off15 (k0_t8 : Fin k0_t8_loop.trips) : Fin 2 → Nat :=
  let c6_i32 : BitVec 32 := 6#32
  let v108 : Index := Scalar.indexCast c6_i32
  let c0_i32_112 : BitVec 32 := 0#32
  let c0_i32_57 : BitVec 32 := 0#32
  let c1_i32_59 : BitVec 32 := 1#32
  let arg22 : BitVec 32 := Scf.iv c0_i32_57 c1_i32_59 k0_t8
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![6, v109.toNat]

def k0_chk13 (v110 : IVec S16 32) : Prop :=
  (∀ a x, ((![v110] : Fin 1 → IVec S16 32) a x).toNat < S32.size a) ∧
  (∀ a x, ((![v110] : Fin 1 → IVec S16 32) a x).toNat < S32.size a)
theorem k0_idx25_inb : ∀ (v110 : IVec S16 32) (k0_hw13 : k0_chk13 v110), ∀ a x, ((![v110] : Fin 1 → IVec S16 32) a x).toNat < S32.size a := fun v110 k0_hw13 => k0_hw13.1
theorem k0_idx26_inb : ∀ (v110 : IVec S16 32) (k0_hw13 : k0_chk13 v110), ∀ a x, ((![v110] : Fin 1 → IVec S16 32) a x).toNat < S32.size a := fun v110 k0_hw13 => k0_hw13.2
def k0_off16 (k0_t8 : Fin k0_t8_loop.trips) : Fin 2 → Nat :=
  let c6_i32_121 : BitVec 32 := 6#32
  let v130 : Index := Scalar.indexCast c6_i32_121
  let c0_i32_112 : BitVec 32 := 0#32
  let c0_i32_57 : BitVec 32 := 0#32
  let c1_i32_59 : BitVec 32 := 1#32
  let arg22 : BitVec 32 := Scf.iv c0_i32_57 c1_i32_59 k0_t8
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![6, v131.toNat]

def k0_chk14 (v132 : IVec S16 32) : Prop :=
  (∀ a x, ((![v132] : Fin 1 → IVec S16 32) a x).toNat < S32.size a) ∧
  (∀ a x, ((![v132] : Fin 1 → IVec S16 32) a x).toNat < S32.size a)
theorem k0_idx27_inb : ∀ (v132 : IVec S16 32) (k0_hw14 : k0_chk14 v132), ∀ a x, ((![v132] : Fin 1 → IVec S16 32) a x).toNat < S32.size a := fun v132 k0_hw14 => k0_hw14.1
theorem k0_idx28_inb : ∀ (v132 : IVec S16 32) (k0_hw14 : k0_chk14 v132), ∀ a x, ((![v132] : Fin 1 → IVec S16 32) a x).toNat < S32.size a := fun v132 k0_hw14 => k0_hw14.2
@[reducible] def k0_t9_loop : Scf.Loop 32 :=
  let c0_i32_61 : BitVec 32 := 0#32
  let c16_i32_62 : BitVec 32 := 16#32
  let v67 : BitVec 32 := Scalar.addi c0_i32_61 c16_i32_62
  let c1_i32_63 : BitVec 32 := 1#32
  ⟨c0_i32_61, v67, c1_i32_63⟩
def k0_off17 (k0_t9 : Fin k0_t9_loop.trips) : Fin 2 → Nat :=
  let c7_i32 : BitVec 32 := 7#32
  let v108 : Index := Scalar.indexCast c7_i32
  let c0_i32_112 : BitVec 32 := 0#32
  let c0_i32_61 : BitVec 32 := 0#32
  let c1_i32_63 : BitVec 32 := 1#32
  let arg22 : BitVec 32 := Scf.iv c0_i32_61 c1_i32_63 k0_t9
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![7, v109.toNat]

def k0_chk15 (v110 : IVec S16 32) : Prop :=
  (∀ a x, ((![v110] : Fin 1 → IVec S16 32) a x).toNat < S32.size a) ∧
  (∀ a x, ((![v110] : Fin 1 → IVec S16 32) a x).toNat < S32.size a)
theorem k0_idx29_inb : ∀ (v110 : IVec S16 32) (k0_hw15 : k0_chk15 v110), ∀ a x, ((![v110] : Fin 1 → IVec S16 32) a x).toNat < S32.size a := fun v110 k0_hw15 => k0_hw15.1
theorem k0_idx30_inb : ∀ (v110 : IVec S16 32) (k0_hw15 : k0_chk15 v110), ∀ a x, ((![v110] : Fin 1 → IVec S16 32) a x).toNat < S32.size a := fun v110 k0_hw15 => k0_hw15.2
def k0_off18 (k0_t9 : Fin k0_t9_loop.trips) : Fin 2 → Nat :=
  let c7_i32_121 : BitVec 32 := 7#32
  let v130 : Index := Scalar.indexCast c7_i32_121
  let c0_i32_112 : BitVec 32 := 0#32
  let c0_i32_61 : BitVec 32 := 0#32
  let c1_i32_63 : BitVec 32 := 1#32
  let arg22 : BitVec 32 := Scf.iv c0_i32_61 c1_i32_63 k0_t9
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![7, v131.toNat]

def k0_chk16 (v132 : IVec S16 32) : Prop :=
  (∀ a x, ((![v132] : Fin 1 → IVec S16 32) a x).toNat < S32.size a) ∧
  (∀ a x, ((![v132] : Fin 1 → IVec S16 32) a x).toNat < S32.size a)
theorem k0_idx31_inb : ∀ (v132 : IVec S16 32) (k0_hw16 : k0_chk16 v132), ∀ a x, ((![v132] : Fin 1 → IVec S16 32) a x).toNat < S32.size a := fun v132 k0_hw16 => k0_hw16.1
theorem k0_idx32_inb : ∀ (v132 : IVec S16 32) (k0_hw16 : k0_chk16 v132), ∀ a x, ((![v132] : Fin 1 → IVec S16 32) a x).toNat < S32.size a := fun v132 k0_hw16 => k0_hw16.2
@[reducible] def k0_t10_loop : Scf.Loop 32 :=
  let c0_i32_80 : BitVec 32 := 0#32
  let c16_i32_81 : BitVec 32 := 16#32
  let v89 : BitVec 32 := Scalar.addi c0_i32_80 c16_i32_81
  let c1_i32_82 : BitVec 32 := 1#32
  ⟨c0_i32_80, v89, c1_i32_82⟩
def k0_off19 (k0_t10 : Fin k0_t10_loop.trips) : Fin 2 → Nat :=
  let c0_i32_114 : BitVec 32 := 0#32
  let v108 : Index := Scalar.indexCast c0_i32_114
  let c0_i32_112 : BitVec 32 := 0#32
  let c0_i32_80 : BitVec 32 := 0#32
  let c1_i32_82 : BitVec 32 := 1#32
  let arg22 : BitVec 32 := Scf.iv c0_i32_80 c1_i32_82 k0_t10
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![0, v109.toNat]

def k0_chk17 (v110 : IVec S16 32) : Prop :=
  (∀ a x, ((![v110] : Fin 1 → IVec S16 32) a x).toNat < S32.size a) ∧
  (∀ a x, ((![v110] : Fin 1 → IVec S16 32) a x).toNat < S32.size a)
theorem k0_idx33_inb : ∀ (v110 : IVec S16 32) (k0_hw17 : k0_chk17 v110), ∀ a x, ((![v110] : Fin 1 → IVec S16 32) a x).toNat < S32.size a := fun v110 k0_hw17 => k0_hw17.1
theorem k0_idx34_inb : ∀ (v110 : IVec S16 32) (k0_hw17 : k0_chk17 v110), ∀ a x, ((![v110] : Fin 1 → IVec S16 32) a x).toNat < S32.size a := fun v110 k0_hw17 => k0_hw17.2
def k0_off20 (k0_t10 : Fin k0_t10_loop.trips) : Fin 2 → Nat :=
  let c0_i32_122 : BitVec 32 := 0#32
  let v130 : Index := Scalar.indexCast c0_i32_122
  let c0_i32_112 : BitVec 32 := 0#32
  let c0_i32_80 : BitVec 32 := 0#32
  let c1_i32_82 : BitVec 32 := 1#32
  let arg22 : BitVec 32 := Scf.iv c0_i32_80 c1_i32_82 k0_t10
  let c32_i32 : BitVec 32 := 32#32
  let v105 : BitVec 32 := Scalar.muli arg22 c32_i32
  let v106 : BitVec 32 := Scalar.addi c0_i32_112 v105
  let c16_i32_121 : BitVec 32 := 16#32
  let v129 : BitVec 32 := Scalar.addi v106 c16_i32_121
  let v131 : Index := Scalar.indexCast v129
  ![0, v131.toNat]

def k0_chk18 (v132 : IVec S16 32) : Prop :=
  (∀ a x, ((![v132] : Fin 1 → IVec S16 32) a x).toNat < S32.size a) ∧
  (∀ a x, ((![v132] : Fin 1 → IVec S16 32) a x).toNat < S32.size a)
theorem k0_idx35_inb : ∀ (v132 : IVec S16 32) (k0_hw18 : k0_chk18 v132), ∀ a x, ((![v132] : Fin 1 → IVec S16 32) a x).toNat < S32.size a := fun v132 k0_hw18 => k0_hw18.1
theorem k0_idx36_inb : ∀ (v132 : IVec S16 32) (k0_hw18 : k0_chk18 v132), ∀ a x, ((![v132] : Fin 1 → IVec S16 32) a x).toNat < S32.size a := fun v132 k0_hw18 => k0_hw18.2
@[reducible] def k0_t11_loop : Scf.Loop 32 :=
  let c0_i32_84 : BitVec 32 := 0#32
  let c16_i32_85 : BitVec 32 := 16#32
  let v91 : BitVec 32 := Scalar.addi c0_i32_84 c16_i32_85
  let c1_i32_86 : BitVec 32 := 1#32
  ⟨c0_i32_84, v91, c1_i32_86⟩
def k0_off21 (k0_t11 : Fin k0_t11_loop.trips) : Fin 2 → Nat :=
  let c1_i32_114 : BitVec 32 := 1#32
  let v108 : Index := Scalar.indexCast c1_i32_114
  let c0_i32_112 : BitVec 32 := 0#32
  let c0_i32_84 : BitVec 32 := 0#32
  let c1_i32_86 : BitVec 32 := 1#32
  let arg22 : BitVec 32 := Scf.iv c0_i32_84 c1_i32_86 k0_t11
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![1, v109.toNat]

def k0_chk19 (v110 : IVec S16 32) : Prop :=
  (∀ a x, ((![v110] : Fin 1 → IVec S16 32) a x).toNat < S32.size a) ∧
  (∀ a x, ((![v110] : Fin 1 → IVec S16 32) a x).toNat < S32.size a)
theorem k0_idx37_inb : ∀ (v110 : IVec S16 32) (k0_hw19 : k0_chk19 v110), ∀ a x, ((![v110] : Fin 1 → IVec S16 32) a x).toNat < S32.size a := fun v110 k0_hw19 => k0_hw19.1
theorem k0_idx38_inb : ∀ (v110 : IVec S16 32) (k0_hw19 : k0_chk19 v110), ∀ a x, ((![v110] : Fin 1 → IVec S16 32) a x).toNat < S32.size a := fun v110 k0_hw19 => k0_hw19.2
def k0_off22 (k0_t11 : Fin k0_t11_loop.trips) : Fin 2 → Nat :=
  let c1_i32_122 : BitVec 32 := 1#32
  let v130 : Index := Scalar.indexCast c1_i32_122
  let c0_i32_112 : BitVec 32 := 0#32
  let c0_i32_84 : BitVec 32 := 0#32
  let c1_i32_86 : BitVec 32 := 1#32
  let arg22 : BitVec 32 := Scf.iv c0_i32_84 c1_i32_86 k0_t11
  let c32_i32 : BitVec 32 := 32#32
  let v105 : BitVec 32 := Scalar.muli arg22 c32_i32
  let v106 : BitVec 32 := Scalar.addi c0_i32_112 v105
  let c16_i32_121 : BitVec 32 := 16#32
  let v129 : BitVec 32 := Scalar.addi v106 c16_i32_121
  let v131 : Index := Scalar.indexCast v129
  ![1, v131.toNat]

def k0_chk20 (v132 : IVec S16 32) : Prop :=
  (∀ a x, ((![v132] : Fin 1 → IVec S16 32) a x).toNat < S32.size a) ∧
  (∀ a x, ((![v132] : Fin 1 → IVec S16 32) a x).toNat < S32.size a)
theorem k0_idx39_inb : ∀ (v132 : IVec S16 32) (k0_hw20 : k0_chk20 v132), ∀ a x, ((![v132] : Fin 1 → IVec S16 32) a x).toNat < S32.size a := fun v132 k0_hw20 => k0_hw20.1
theorem k0_idx40_inb : ∀ (v132 : IVec S16 32) (k0_hw20 : k0_chk20 v132), ∀ a x, ((![v132] : Fin 1 → IVec S16 32) a x).toNat < S32.size a := fun v132 k0_hw20 => k0_hw20.2
@[reducible] def k0_t12_loop : Scf.Loop 32 :=
  let c0_i32_88 : BitVec 32 := 0#32
  let c16_i32_89 : BitVec 32 := 16#32
  let v93 : BitVec 32 := Scalar.addi c0_i32_88 c16_i32_89
  let c1_i32_90 : BitVec 32 := 1#32
  ⟨c0_i32_88, v93, c1_i32_90⟩
def k0_off23 (k0_t12 : Fin k0_t12_loop.trips) : Fin 2 → Nat :=
  let c2_i32_114 : BitVec 32 := 2#32
  let v108 : Index := Scalar.indexCast c2_i32_114
  let c0_i32_112 : BitVec 32 := 0#32
  let c0_i32_88 : BitVec 32 := 0#32
  let c1_i32_90 : BitVec 32 := 1#32
  let arg22 : BitVec 32 := Scf.iv c0_i32_88 c1_i32_90 k0_t12
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![2, v109.toNat]

def k0_chk21 (v110 : IVec S16 32) : Prop :=
  (∀ a x, ((![v110] : Fin 1 → IVec S16 32) a x).toNat < S32.size a) ∧
  (∀ a x, ((![v110] : Fin 1 → IVec S16 32) a x).toNat < S32.size a)
theorem k0_idx41_inb : ∀ (v110 : IVec S16 32) (k0_hw21 : k0_chk21 v110), ∀ a x, ((![v110] : Fin 1 → IVec S16 32) a x).toNat < S32.size a := fun v110 k0_hw21 => k0_hw21.1
theorem k0_idx42_inb : ∀ (v110 : IVec S16 32) (k0_hw21 : k0_chk21 v110), ∀ a x, ((![v110] : Fin 1 → IVec S16 32) a x).toNat < S32.size a := fun v110 k0_hw21 => k0_hw21.2
def k0_off24 (k0_t12 : Fin k0_t12_loop.trips) : Fin 2 → Nat :=
  let c2_i32_122 : BitVec 32 := 2#32
  let v130 : Index := Scalar.indexCast c2_i32_122
  let c0_i32_112 : BitVec 32 := 0#32
  let c0_i32_88 : BitVec 32 := 0#32
  let c1_i32_90 : BitVec 32 := 1#32
  let arg22 : BitVec 32 := Scf.iv c0_i32_88 c1_i32_90 k0_t12
  let c32_i32 : BitVec 32 := 32#32
  let v105 : BitVec 32 := Scalar.muli arg22 c32_i32
  let v106 : BitVec 32 := Scalar.addi c0_i32_112 v105
  let c16_i32_121 : BitVec 32 := 16#32
  let v129 : BitVec 32 := Scalar.addi v106 c16_i32_121
  let v131 : Index := Scalar.indexCast v129
  ![2, v131.toNat]

def k0_chk22 (v132 : IVec S16 32) : Prop :=
  (∀ a x, ((![v132] : Fin 1 → IVec S16 32) a x).toNat < S32.size a) ∧
  (∀ a x, ((![v132] : Fin 1 → IVec S16 32) a x).toNat < S32.size a)
theorem k0_idx43_inb : ∀ (v132 : IVec S16 32) (k0_hw22 : k0_chk22 v132), ∀ a x, ((![v132] : Fin 1 → IVec S16 32) a x).toNat < S32.size a := fun v132 k0_hw22 => k0_hw22.1
theorem k0_idx44_inb : ∀ (v132 : IVec S16 32) (k0_hw22 : k0_chk22 v132), ∀ a x, ((![v132] : Fin 1 → IVec S16 32) a x).toNat < S32.size a := fun v132 k0_hw22 => k0_hw22.2
@[reducible] def k0_t13_loop : Scf.Loop 32 :=
  let c0_i32_92 : BitVec 32 := 0#32
  let c16_i32_93 : BitVec 32 := 16#32
  let v95 : BitVec 32 := Scalar.addi c0_i32_92 c16_i32_93
  let c1_i32_94 : BitVec 32 := 1#32
  ⟨c0_i32_92, v95, c1_i32_94⟩
def k0_off25 (k0_t13 : Fin k0_t13_loop.trips) : Fin 2 → Nat :=
  let c3_i32 : BitVec 32 := 3#32
  let v108 : Index := Scalar.indexCast c3_i32
  let c0_i32_112 : BitVec 32 := 0#32
  let c0_i32_92 : BitVec 32 := 0#32
  let c1_i32_94 : BitVec 32 := 1#32
  let arg22 : BitVec 32 := Scf.iv c0_i32_92 c1_i32_94 k0_t13
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![3, v109.toNat]

def k0_chk23 (v110 : IVec S16 32) : Prop :=
  (∀ a x, ((![v110] : Fin 1 → IVec S16 32) a x).toNat < S32.size a) ∧
  (∀ a x, ((![v110] : Fin 1 → IVec S16 32) a x).toNat < S32.size a)
theorem k0_idx45_inb : ∀ (v110 : IVec S16 32) (k0_hw23 : k0_chk23 v110), ∀ a x, ((![v110] : Fin 1 → IVec S16 32) a x).toNat < S32.size a := fun v110 k0_hw23 => k0_hw23.1
theorem k0_idx46_inb : ∀ (v110 : IVec S16 32) (k0_hw23 : k0_chk23 v110), ∀ a x, ((![v110] : Fin 1 → IVec S16 32) a x).toNat < S32.size a := fun v110 k0_hw23 => k0_hw23.2
def k0_off26 (k0_t13 : Fin k0_t13_loop.trips) : Fin 2 → Nat :=
  let c3_i32_121 : BitVec 32 := 3#32
  let v130 : Index := Scalar.indexCast c3_i32_121
  let c0_i32_112 : BitVec 32 := 0#32
  let c0_i32_92 : BitVec 32 := 0#32
  let c1_i32_94 : BitVec 32 := 1#32
  let arg22 : BitVec 32 := Scf.iv c0_i32_92 c1_i32_94 k0_t13
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![3, v131.toNat]

def k0_chk24 (v132 : IVec S16 32) : Prop :=
  (∀ a x, ((![v132] : Fin 1 → IVec S16 32) a x).toNat < S32.size a) ∧
  (∀ a x, ((![v132] : Fin 1 → IVec S16 32) a x).toNat < S32.size a)
theorem k0_idx47_inb : ∀ (v132 : IVec S16 32) (k0_hw24 : k0_chk24 v132), ∀ a x, ((![v132] : Fin 1 → IVec S16 32) a x).toNat < S32.size a := fun v132 k0_hw24 => k0_hw24.1
theorem k0_idx48_inb : ∀ (v132 : IVec S16 32) (k0_hw24 : k0_chk24 v132), ∀ a x, ((![v132] : Fin 1 → IVec S16 32) a x).toNat < S32.size a := fun v132 k0_hw24 => k0_hw24.2
@[reducible] def k0_t14_loop : Scf.Loop 32 :=
  let c0_i32_96 : BitVec 32 := 0#32
  let c16_i32_97 : BitVec 32 := 16#32
  let v97 : BitVec 32 := Scalar.addi c0_i32_96 c16_i32_97
  let c1_i32_98 : BitVec 32 := 1#32
  ⟨c0_i32_96, v97, c1_i32_98⟩
def k0_off27 (k0_t14 : Fin k0_t14_loop.trips) : Fin 2 → Nat :=
  let c4_i32 : BitVec 32 := 4#32
  let v108 : Index := Scalar.indexCast c4_i32
  let c0_i32_112 : BitVec 32 := 0#32
  let c0_i32_96 : BitVec 32 := 0#32
  let c1_i32_98 : BitVec 32 := 1#32
  let arg22 : BitVec 32 := Scf.iv c0_i32_96 c1_i32_98 k0_t14
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![4, v109.toNat]

def k0_chk25 (v110 : IVec S16 32) : Prop :=
  (∀ a x, ((![v110] : Fin 1 → IVec S16 32) a x).toNat < S32.size a) ∧
  (∀ a x, ((![v110] : Fin 1 → IVec S16 32) a x).toNat < S32.size a)
theorem k0_idx49_inb : ∀ (v110 : IVec S16 32) (k0_hw25 : k0_chk25 v110), ∀ a x, ((![v110] : Fin 1 → IVec S16 32) a x).toNat < S32.size a := fun v110 k0_hw25 => k0_hw25.1
theorem k0_idx50_inb : ∀ (v110 : IVec S16 32) (k0_hw25 : k0_chk25 v110), ∀ a x, ((![v110] : Fin 1 → IVec S16 32) a x).toNat < S32.size a := fun v110 k0_hw25 => k0_hw25.2
def k0_off28 (k0_t14 : Fin k0_t14_loop.trips) : Fin 2 → Nat :=
  let c4_i32_121 : BitVec 32 := 4#32
  let v130 : Index := Scalar.indexCast c4_i32_121
  let c0_i32_112 : BitVec 32 := 0#32
  let c0_i32_96 : BitVec 32 := 0#32
  let c1_i32_98 : BitVec 32 := 1#32
  let arg22 : BitVec 32 := Scf.iv c0_i32_96 c1_i32_98 k0_t14
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![4, v131.toNat]

def k0_chk26 (v132 : IVec S16 32) : Prop :=
  (∀ a x, ((![v132] : Fin 1 → IVec S16 32) a x).toNat < S32.size a) ∧
  (∀ a x, ((![v132] : Fin 1 → IVec S16 32) a x).toNat < S32.size a)
theorem k0_idx51_inb : ∀ (v132 : IVec S16 32) (k0_hw26 : k0_chk26 v132), ∀ a x, ((![v132] : Fin 1 → IVec S16 32) a x).toNat < S32.size a := fun v132 k0_hw26 => k0_hw26.1
theorem k0_idx52_inb : ∀ (v132 : IVec S16 32) (k0_hw26 : k0_chk26 v132), ∀ a x, ((![v132] : Fin 1 → IVec S16 32) a x).toNat < S32.size a := fun v132 k0_hw26 => k0_hw26.2
@[reducible] def k0_t15_loop : Scf.Loop 32 :=
  let c0_i32_100 : BitVec 32 := 0#32
  let c16_i32_101 : BitVec 32 := 16#32
  let v99 : BitVec 32 := Scalar.addi c0_i32_100 c16_i32_101
  let c1_i32_102 : BitVec 32 := 1#32
  ⟨c0_i32_100, v99, c1_i32_102⟩
def k0_off29 (k0_t15 : Fin k0_t15_loop.trips) : Fin 2 → Nat :=
  let c5_i32 : BitVec 32 := 5#32
  let v108 : Index := Scalar.indexCast c5_i32
  let c0_i32_112 : BitVec 32 := 0#32
  let c0_i32_100 : BitVec 32 := 0#32
  let c1_i32_102 : BitVec 32 := 1#32
  let arg22 : BitVec 32 := Scf.iv c0_i32_100 c1_i32_102 k0_t15
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![5, v109.toNat]

def k0_chk27 (v110 : IVec S16 32) : Prop :=
  (∀ a x, ((![v110] : Fin 1 → IVec S16 32) a x).toNat < S32.size a) ∧
  (∀ a x, ((![v110] : Fin 1 → IVec S16 32) a x).toNat < S32.size a)
theorem k0_idx53_inb : ∀ (v110 : IVec S16 32) (k0_hw27 : k0_chk27 v110), ∀ a x, ((![v110] : Fin 1 → IVec S16 32) a x).toNat < S32.size a := fun v110 k0_hw27 => k0_hw27.1
theorem k0_idx54_inb : ∀ (v110 : IVec S16 32) (k0_hw27 : k0_chk27 v110), ∀ a x, ((![v110] : Fin 1 → IVec S16 32) a x).toNat < S32.size a := fun v110 k0_hw27 => k0_hw27.2
def k0_off30 (k0_t15 : Fin k0_t15_loop.trips) : Fin 2 → Nat :=
  let c5_i32_121 : BitVec 32 := 5#32
  let v130 : Index := Scalar.indexCast c5_i32_121
  let c0_i32_112 : BitVec 32 := 0#32
  let c0_i32_100 : BitVec 32 := 0#32
  let c1_i32_102 : BitVec 32 := 1#32
  let arg22 : BitVec 32 := Scf.iv c0_i32_100 c1_i32_102 k0_t15
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![5, v131.toNat]

def k0_chk28 (v132 : IVec S16 32) : Prop :=
  (∀ a x, ((![v132] : Fin 1 → IVec S16 32) a x).toNat < S32.size a) ∧
  (∀ a x, ((![v132] : Fin 1 → IVec S16 32) a x).toNat < S32.size a)
theorem k0_idx55_inb : ∀ (v132 : IVec S16 32) (k0_hw28 : k0_chk28 v132), ∀ a x, ((![v132] : Fin 1 → IVec S16 32) a x).toNat < S32.size a := fun v132 k0_hw28 => k0_hw28.1
theorem k0_idx56_inb : ∀ (v132 : IVec S16 32) (k0_hw28 : k0_chk28 v132), ∀ a x, ((![v132] : Fin 1 → IVec S16 32) a x).toNat < S32.size a := fun v132 k0_hw28 => k0_hw28.2
@[reducible] def k0_t16_loop : Scf.Loop 32 :=
  let c0_i32_104 : BitVec 32 := 0#32
  let c16_i32_105 : BitVec 32 := 16#32
  let v101 : BitVec 32 := Scalar.addi c0_i32_104 c16_i32_105
  let c1_i32_106 : BitVec 32 := 1#32
  ⟨c0_i32_104, v101, c1_i32_106⟩
def k0_off31 (k0_t16 : Fin k0_t16_loop.trips) : Fin 2 → Nat :=
  let c6_i32 : BitVec 32 := 6#32
  let v108 : Index := Scalar.indexCast c6_i32
  let c0_i32_112 : BitVec 32 := 0#32
  let c0_i32_104 : BitVec 32 := 0#32
  let c1_i32_106 : BitVec 32 := 1#32
  let arg22 : BitVec 32 := Scf.iv c0_i32_104 c1_i32_106 k0_t16
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![6, v109.toNat]

def k0_chk29 (v110 : IVec S16 32) : Prop :=
  (∀ a x, ((![v110] : Fin 1 → IVec S16 32) a x).toNat < S32.size a) ∧
  (∀ a x, ((![v110] : Fin 1 → IVec S16 32) a x).toNat < S32.size a)
theorem k0_idx57_inb : ∀ (v110 : IVec S16 32) (k0_hw29 : k0_chk29 v110), ∀ a x, ((![v110] : Fin 1 → IVec S16 32) a x).toNat < S32.size a := fun v110 k0_hw29 => k0_hw29.1
theorem k0_idx58_inb : ∀ (v110 : IVec S16 32) (k0_hw29 : k0_chk29 v110), ∀ a x, ((![v110] : Fin 1 → IVec S16 32) a x).toNat < S32.size a := fun v110 k0_hw29 => k0_hw29.2
def k0_off32 (k0_t16 : Fin k0_t16_loop.trips) : Fin 2 → Nat :=
  let c6_i32_121 : BitVec 32 := 6#32
  let v130 : Index := Scalar.indexCast c6_i32_121
  let c0_i32_112 : BitVec 32 := 0#32
  let c0_i32_104 : BitVec 32 := 0#32
  let c1_i32_106 : BitVec 32 := 1#32
  let arg22 : BitVec 32 := Scf.iv c0_i32_104 c1_i32_106 k0_t16
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![6, v131.toNat]

def k0_chk30 (v132 : IVec S16 32) : Prop :=
  (∀ a x, ((![v132] : Fin 1 → IVec S16 32) a x).toNat < S32.size a) ∧
  (∀ a x, ((![v132] : Fin 1 → IVec S16 32) a x).toNat < S32.size a)
theorem k0_idx59_inb : ∀ (v132 : IVec S16 32) (k0_hw30 : k0_chk30 v132), ∀ a x, ((![v132] : Fin 1 → IVec S16 32) a x).toNat < S32.size a := fun v132 k0_hw30 => k0_hw30.1
theorem k0_idx60_inb : ∀ (v132 : IVec S16 32) (k0_hw30 : k0_chk30 v132), ∀ a x, ((![v132] : Fin 1 → IVec S16 32) a x).toNat < S32.size a := fun v132 k0_hw30 => k0_hw30.2
@[reducible] def k0_t17_loop : Scf.Loop 32 :=
  let c0_i32_108 : BitVec 32 := 0#32
  let c16_i32_109 : BitVec 32 := 16#32
  let v103 : BitVec 32 := Scalar.addi c0_i32_108 c16_i32_109
  let c1_i32_110 : BitVec 32 := 1#32
  ⟨c0_i32_108, v103, c1_i32_110⟩
def k0_off33 (k0_t17 : Fin k0_t17_loop.trips) : Fin 2 → Nat :=
  let c7_i32 : BitVec 32 := 7#32
  let v108 : Index := Scalar.indexCast c7_i32
  let c0_i32_112 : BitVec 32 := 0#32
  let c0_i32_108 : BitVec 32 := 0#32
  let c1_i32_110 : BitVec 32 := 1#32
  let arg22 : BitVec 32 := Scf.iv c0_i32_108 c1_i32_110 k0_t17
  let c32_i32 : BitVec 32 := 32#32
  let v105 : BitVec 32 := Scalar.muli arg22 c32_i32
  let v106 : BitVec 32 := Scalar.addi c0_i32_112 v105
  let c0_i32_113 : BitVec 32 := 0#32
  let v107 : BitVec 32 := Scalar.addi v106 c0_i32_113
  let v109 : Index := Scalar.indexCast v107
  ![7, v109.toNat]

def k0_chk31 (v110 : IVec S16 32) : Prop :=
  (∀ a x, ((![v110] : Fin 1 → IVec S16 32) a x).toNat < S32.size a) ∧
  (∀ a x, ((![v110] : Fin 1 → IVec S16 32) a x).toNat < S32.size a)
theorem k0_idx61_inb : ∀ (v110 : IVec S16 32) (k0_hw31 : k0_chk31 v110), ∀ a x, ((![v110] : Fin 1 → IVec S16 32) a x).toNat < S32.size a := fun v110 k0_hw31 => k0_hw31.1
theorem k0_idx62_inb : ∀ (v110 : IVec S16 32) (k0_hw31 : k0_chk31 v110), ∀ a x, ((![v110] : Fin 1 → IVec S16 32) a x).toNat < S32.size a := fun v110 k0_hw31 => k0_hw31.2
def k0_off34 (k0_t17 : Fin k0_t17_loop.trips) : Fin 2 → Nat :=
  let c7_i32_121 : BitVec 32 := 7#32
  let v130 : Index := Scalar.indexCast c7_i32_121
  let c0_i32_112 : BitVec 32 := 0#32
  let c0_i32_108 : BitVec 32 := 0#32
  let c1_i32_110 : BitVec 32 := 1#32
  let arg22 : BitVec 32 := Scf.iv c0_i32_108 c1_i32_110 k0_t17
  let c32_i32 : BitVec 32 := 32#32
  let v105 : BitVec 32 := Scalar.muli arg22 c32_i32
  let v106 : BitVec 32 := Scalar.addi c0_i32_112 v105
  let c16_i32_120 : BitVec 32 := 16#32
  let v129 : BitVec 32 := Scalar.addi v106 c16_i32_120
  let v131 : Index := Scalar.indexCast v129
  ![7, v131.toNat]

def k0_chk32 (v132 : IVec S16 32) : Prop :=
  (∀ a x, ((![v132] : Fin 1 → IVec S16 32) a x).toNat < S32.size a) ∧
  (∀ a x, ((![v132] : Fin 1 → IVec S16 32) a x).toNat < S32.size a)
theorem k0_idx63_inb : ∀ (v132 : IVec S16 32) (k0_hw32 : k0_chk32 v132), ∀ a x, ((![v132] : Fin 1 → IVec S16 32) a x).toNat < S32.size a := fun v132 k0_hw32 => k0_hw32.1
theorem k0_idx64_inb : ∀ (v132 : IVec S16 32) (k0_hw32 : k0_chk32 v132), ∀ a x, ((![v132] : Fin 1 → IVec S16 32) a x).toNat < S32.size a := fun v132 k0_hw32 => k0_hw32.2
def k0_off35 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_14 : BitVec 32 := 16#32
  let v27 : BitVec 32 := Scalar.muli v1 c16_i32_14
  ![v27.toNat]
def k0_off36 (i : grid0.Coords) : Fin 1 → Nat :=
  let c512_i32 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_16 : BitVec 32 := 16#32
  let v30 : BitVec 32 := Scalar.muli v1 c16_i32_16
  let v31 : BitVec 32 := Scalar.addi c512_i32 v30
  ![v31.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1x512x512 : Shape := ⟨4, ![16, 1, 512, 512]⟩
abbrev S16x512x512 : Shape := ⟨3, ![16, 512, 512]⟩
abbrev S19 : Shape := ⟨1, ![19]⟩
abbrev S4194304 : Shape := ⟨1, ![4194304]⟩
abbrev S_ : Shape := ⟨0, ![]⟩
abbrev S4194304x1 : Shape := ⟨2, ![4194304, 1]⟩
abbrev S1 : Shape := ⟨1, ![1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S16x512x512, .i32⟩
  | .hbm, ⟨2, _⟩ => ⟨S19, .f32⟩
  | .hbm, ⟨3, _⟩ => ⟨S19, .f32⟩
  | .hbm, ⟨4, _⟩ => ⟨S16x512x512, .f32⟩
  | .hbm, ⟨5, _⟩ => ⟨S4194304, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4194304, .i32⟩
  | .hbm, ⟨10, _⟩ => ⟨S4194304, .i32⟩
  | .hbm, ⟨11, _⟩ => ⟨S_, .i32⟩
  | .hbm, ⟨12, _⟩ => ⟨S4194304, .i32⟩
  | .hbm, ⟨13, _⟩ => ⟨S4194304, .i32⟩
  | .hbm, ⟨14, _⟩ => ⟨S_, .i32⟩
  | .hbm, ⟨15, _⟩ => ⟨S4194304, .i32⟩
  | .hbm, ⟨16, _⟩ => ⟨S4194304, .i1⟩
  | .hbm, ⟨17, _⟩ => ⟨S_, .i32⟩
  | .hbm, ⟨18, _⟩ => ⟨S4194304, .i32⟩
  | .hbm, ⟨19, _⟩ => ⟨S4194304, .i32⟩
  | .hbm, ⟨20, _⟩ => ⟨S4194304, .i32⟩
  | .hbm, ⟨21, _⟩ => ⟨S4194304x1, .i32⟩
  | .hbm, ⟨22, _⟩ => ⟨S1, .i32⟩
  | .hbm, ⟨23, _⟩ => ⟨S_, .i32⟩
  | .hbm, ⟨24, _⟩ => ⟨S4194304x1, .i32⟩
  | .hbm, ⟨25, _⟩ => ⟨S4194304x1, .i1⟩
  | .hbm, ⟨26, _⟩ => ⟨S1x1, .i32⟩
  | .hbm, ⟨27, _⟩ => ⟨S4194304x1, .i32⟩
  | .hbm, ⟨28, _⟩ => ⟨S4194304x1, .i1⟩
  | .hbm, ⟨29, _⟩ => ⟨S4194304x1, .i1⟩
  | .hbm, ⟨30, _⟩ => ⟨S_, .i1⟩
  | .hbm, ⟨31, _⟩ => ⟨S4194304, .i1⟩
  | .hbm, ⟨32, _⟩ => ⟨S4194304, .f32⟩
  | .hbm, ⟨33, _⟩ => ⟨S_, .f32⟩
  | .hbm, ⟨34, _⟩ => ⟨S4194304, .f32⟩
  | .hbm, ⟨35, _⟩ => ⟨S4194304, .f32⟩
  | .hbm, ⟨36, _⟩ => ⟨S16x512x512, .f32⟩
  | .hbm, ⟨37, _⟩ => ⟨S_, .i32⟩
  | .hbm, ⟨38, _⟩ => ⟨S4194304, .i32⟩
  | .hbm, ⟨39, _⟩ => ⟨S4194304, .i1⟩
  | .hbm, ⟨40, _⟩ => ⟨S_, .i32⟩
  | .hbm, ⟨41, _⟩ => ⟨S4194304, .i32⟩
  | .hbm, ⟨42, _⟩ => ⟨S4194304, .i32⟩
  | .hbm, ⟨43, _⟩ => ⟨S4194304, .i32⟩
  | .hbm, ⟨44, _⟩ => ⟨S4194304x1, .i32⟩
  | .hbm, ⟨45, _⟩ => ⟨S1, .i32⟩
  | .hbm, ⟨46, _⟩ => ⟨S_, .i32⟩
  | .hbm, ⟨47, _⟩ => ⟨S4194304x1, .i32⟩
  | .hbm, ⟨48, _⟩ => ⟨S4194304x1, .i1⟩
  | .hbm, ⟨49, _⟩ => ⟨S1x1, .i32⟩
  | .hbm, ⟨50, _⟩ => ⟨S4194304x1, .i32⟩
  | .hbm, ⟨51, _⟩ => ⟨S4194304x1, .i1⟩
  | .hbm, ⟨52, _⟩ => ⟨S4194304x1, .i1⟩
  | .hbm, ⟨53, _⟩ => ⟨S_, .i1⟩
  | .hbm, ⟨54, _⟩ => ⟨S4194304, .i1⟩
  | .hbm, ⟨55, _⟩ => ⟨S4194304, .f32⟩
  | .hbm, ⟨56, _⟩ => ⟨S_, .f32⟩
  | .hbm, ⟨57, _⟩ => ⟨S4194304, .f32⟩
  | .hbm, ⟨58, _⟩ => ⟨S4194304, .f32⟩
  | .hbm, ⟨59, _⟩ => ⟨S16x512x512, .f32⟩
  | .hbm, ⟨60, _⟩ => ⟨S16x512x512, .f32⟩
  | .hbm, ⟨61, _⟩ => ⟨S16x512x512, .f32⟩
  | .hbm, ⟨62, _⟩ => ⟨S_, .f32⟩
  | .hbm, ⟨63, _⟩ => ⟨S16x512x512, .f32⟩
  | .hbm, ⟨64, _⟩ => ⟨S16x512x512, .f32⟩
  | .hbm, ⟨65, _⟩ => ⟨S16x512x512, .f32⟩
  | .hbm, ⟨66, _⟩ => ⟨S_, .f32⟩
  | .hbm, ⟨67, _⟩ => ⟨S16x512x512, .f32⟩
  | .hbm, ⟨68, _⟩ => ⟨S16x512x512, .f32⟩
  | .hbm, ⟨69, _⟩ => ⟨S_, .i32⟩
  | .hbm, ⟨70, _⟩ => ⟨S16x512x512, .i32⟩
  | .hbm, ⟨71, _⟩ => ⟨S16x512x512, .i1⟩
  | .hbm, ⟨72, _⟩ => ⟨S16x512x512, .f32⟩
  | .hbm, ⟨73, _⟩ => ⟨S_, .f32⟩
  | .hbm, ⟨74, _⟩ => ⟨S16x512x512, .f32⟩
  | .hbm, ⟨75, _⟩ => ⟨S16x512x512, .i1⟩
  | .hbm, ⟨76, _⟩ => ⟨S16x512x512, .f32⟩
  | .hbm, ⟨77, _⟩ => ⟨S16x512x512, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .i1⟩
  | .hbm, ⟨82, _⟩ => ⟨S16x512x512, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v3 : Ref sig .tc := ⟨.hbm, 35, rfl⟩
abbrev main_v4 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_cst_2 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_call3_cst : Ref sig .tc := ⟨.hbm, 66, rfl⟩
abbrev main_call3_v0 : Ref sig .tc := ⟨.hbm, 67, rfl⟩
abbrev main_v12 : Ref sig .tc := ⟨.hbm, 68, rfl⟩
abbrev main_c_3 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_cst_4 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_cst_5 : Ref sig .tc := ⟨.hbm, 78, rfl⟩
abbrev main_v20 : Ref sig .tc := ⟨.hbm, 79, rfl⟩
abbrev main_cst_6 : Ref sig .tc := ⟨.hbm, 80, rfl⟩
abbrev main_v21 : Ref sig .tc := ⟨.hbm, 81, rfl⟩
abbrev main_v22 : Ref sig .tc := ⟨.hbm, 82, rfl⟩
abbrev main_cst_7 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩

abbrev nD : Nat := 1
abbrev τ : Topo := Topo.v7x

variable {F : FTy → Type} [FloatOps F]
-- ==== Proof.Setup.lean ====
/-
  What the parts of the kernel's certificate share: the program as the SparseCore launch theorem sees it, the resource
  algebra (the launch handshakes' rounds beside the local transfers' counters), the memory the kernel runs on, and one
  vector subcore's name for each of its buffers and semaphores.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernel's labels, through the (empty) family of TensorCore pipelines. -/
abbrev ΛP : Labels := Pipeline.Sig Λ₀ (Fin 0) fun p => (pcfgs (F := F) p).Adm
/-- The one SparseCore call. -/
abbrev K : SparseCore.Cfg τ sig (ΛP (F := F)) 1 := sc (F := F)
/-- The call runs on two SparseCores, -/
theorem nCore_zero : (K (F := F)).nCore 0 = 2 := rfl
/-- on sixteen vector subcores of each. -/
theorem nSub_zero : (K (F := F)).nSub 0 = 16 := rfl
/-- The body table, lifted. -/
abbrev D [FloatOps F] : Defs nD τ sig (Elt F) (ΛP (F := F)) := Pipeline.defs pcfgs defs₀
/-- No body calls another: no variant below the lift. -/
abbrev 𝒱₀ : Variants := Variants.none
abbrev 𝒱 : Variants := 𝒱₀.lift
/-- The bound a body runs under. -/
abbrev v₀ : 𝒱.V := Sum.inl none

/-- The launch semaphores are apart and unscoped, and no buffer is shared among a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

/-- The handshakes' rounds, the left factor. -/
abbrev EH : Emb UH (MT nD τ sig (HIx 1) (Elt F) ℕ UU ℕ) := embL

/-- The transfers' counters, the right factor. -/
abbrev EC : UEmb Counters (MT nD τ sig (HIx 1) (Elt F) ℕ UU ℕ) := countersEmb

/-! ## The launch memory -/

/-- The emissivity map, the class map, the table of bounds and the kernel's partial sums, on device `d`. -/
abbrev eLoc (d : Dev nD) : Loc nD τ sig := (SparseCore.T d).loc main_arg0
abbrev sLoc (d : Dev nD) : Loc nD τ sig := (SparseCore.T d).loc main_arg1
abbrev tLoc (d : Dev nD) : Loc nD τ sig := (SparseCore.T d).loc main_v14
abbrev oLoc (d : Dev nD) : Loc nD τ sig := (SparseCore.T d).loc main_v15

/-- The four arrays as a vector subcore names them. -/
abbrev eV : Memref sig .scVector .hbm S16x1x512x512 .f32 := Memref.whole main_arg0_scv
abbrev sV : Memref sig .scVector .hbm S16x512x512 .i32 := Memref.whole main_arg1_scv
abbrev tV : Memref sig .scVector .hbm S64 .f32 := Memref.whole main_v14_scv
abbrev oV : Memref sig .scVector .hbm S1024 .f32 := Memref.whole main_v15_scv
/-- A vector subcore's own memory: the lower and upper bounds by class, two buffers for eight rows of the emissivity
    map, two for eight rows of the class map, and one row of sixteen lanes to write out from. -/
abbrev loM : Memref sig .scVector .vmem S32 .f32 := Memref.whole cc0_scratch0
abbrev hiM : Memref sig .scVector .vmem S32 .f32 := Memref.whole cc0_scratch1
abbrev e0M : Memref sig .scVector .vmem S8x512 .f32 := Memref.whole cc0_scratch2
abbrev e1M : Memref sig .scVector .vmem S8x512 .f32 := Memref.whole cc0_scratch3
abbrev s0M : Memref sig .scVector .vmem S8x512 .i32 := Memref.whole cc0_scratch4
abbrev s1M : Memref sig .scVector .vmem S8x512 .i32 := Memref.whole cc0_scratch5
abbrev outM : Memref sig .scVector .vmem S16 .f32 := Memref.whole cc0_scratch6

/-- The SparseCore and the subcore that the grid point `L` runs on. -/
abbrev cV (L : grid0.Coords) : Fin τ.nSC := (L 0).castLE hcore0
abbrev jV (L : grid0.Coords) : Fin τ.nSub := (L 1).castLE hsub0
/-- The thread that the grid point `L` runs on. -/
abbrev thr (d : Dev nD) (L : grid0.Coords) : Thread nD τ := V d (cV L) (jV L)

end Cert.Proof

end
-- ==== Proof.Host.lean ====
/-
  The host's lines around the SparseCore call, as two lists: those that compute the table of bounds before it, and those
  that turn its 1024 partial sums into the mean after it.
-/
module

public import proofs.«01_k».proof.Proof.Setup

@[expose] public section

noncomputable section

namespace Cert.Proof

open Cert.KernelIdeal Cert.KernelIdeal.Gen

open Idealize.ShloMosaic
open Idealize.ShloMosaic.StableHlo
open Idealize.SL Idealize.SL.RA Idealize.SL.BI
open Idealize.SL.Sem

variable {F : FTy → Type} [FloatOps F]

/-- The lines before the call: the bounds by class, lower then upper, each padded to 32 entries. -/
def preOps : List (HloOp τ sig (Elt F)) :=
  [nullary main_cst (fun i => FloatOps.ofBits .f32 (lit0 (S19.rowMajor i))),
   nullary main_cst_0 (fun i => FloatOps.ofBits .f32 (lit1 (S19.rowMajor i))),
   nullary main_cst_1 (constant S_ .f32 0x4E6E6B28#32),
   unary main_cst_1 main_v0 (broadcastInDim S13 ![] bcast_S_S13 : (⟨S_, .f32⟩ : BufTy).Contents (Elt F) → (⟨S13, .f32⟩ : BufTy).Contents (Elt F)),
   nullary main_cst_2 (constant S_ .f32 0x3DF5C28F#32),
   unary main_cst_2 main_v1 (broadcastInDim S19 ![] bcast_S_S19 : (⟨S_, .f32⟩ : BufTy).Contents (Elt F) → (⟨S19, .f32⟩ : BufTy).Contents (Elt F)),
   binary main_cst_0 main_v1 main_v2 (cmpf .olt : (⟨S19, .f32⟩ : BufTy).Contents (Elt F) → (⟨S19, .f32⟩ : BufTy).Contents (Elt F) → (⟨S19, .i1⟩ : BufTy).Contents (Elt F)),
   nullary main_cst_3 (constant S_ .f32 0x3FC00000#32),
   unary main_cst_3 main_v3 (broadcastInDim S19 ![] bcast_S_S19 : (⟨S_, .f32⟩ : BufTy).Contents (Elt F) → (⟨S19, .f32⟩ : BufTy).Contents (Elt F)),
   binary main_v3 main_cst_0 main_v4 (mulf : (⟨S19, .f32⟩ : BufTy).Contents (Elt F) → (⟨S19, .f32⟩ : BufTy).Contents (Elt F) → (⟨S19, .f32⟩ : BufTy).Contents (Elt F)),
   binary main_cst main_v4 main_v5 (subf : (⟨S19, .f32⟩ : BufTy).Contents (Elt F) → (⟨S19, .f32⟩ : BufTy).Contents (Elt F) → (⟨S19, .f32⟩ : BufTy).Contents (Elt F)),
   nullary main_cst_4 (constant S_ .f32 0xCE6E6B28#32),
   TRef.unary (.of main_cst_4) (.of main_call0_v0 : TRef sig ⟨S_, .f32⟩) id,
   TRef.unary (.of main_call0_v0 : TRef sig ⟨S_, .f32⟩) (.of main_call0_v1 : TRef sig ⟨S19, .f32⟩) (broadcastInDim S19 ![] bcast_S_S19),
   TRef.ternary (.of main_v2) (.of main_v5) (.of main_call0_v1 : TRef sig ⟨S19, .f32⟩) (.of main_v6 : TRef sig ⟨S19, .f32⟩) select,
   unary main_v0 main_v7 (Host.negf : (⟨S13, .f32⟩ : BufTy).Contents (Elt F) → (⟨S13, .f32⟩ : BufTy).Contents (Elt F)),
   nullary main_cst_5 (constant S_ .f32 0x3DF5C28F#32),
   unary main_cst_5 main_v8 (broadcastInDim S19 ![] bcast_S_S19 : (⟨S_, .f32⟩ : BufTy).Contents (Elt F) → (⟨S19, .f32⟩ : BufTy).Contents (Elt F)),
   binary main_cst_0 main_v8 main_v9 (cmpf .olt : (⟨S19, .f32⟩ : BufTy).Contents (Elt F) → (⟨S19, .f32⟩ : BufTy).Contents (Elt F) → (⟨S19, .i1⟩ : BufTy).Contents (Elt F)),
   nullary main_cst_6 (constant S_ .f32 0x3FC00000#32),
   unary main_cst_6 main_v10 (broadcastInDim S19 ![] bcast_S_S19 : (⟨S_, .f32⟩ : BufTy).Contents (Elt F) → (⟨S19, .f32⟩ : BufTy).Contents (Elt F)),
   binary main_v10 main_cst_0 main_v11 (mulf : (⟨S19, .f32⟩ : BufTy).Contents (Elt F) → (⟨S19, .f32⟩ : BufTy).Contents (Elt F) → (⟨S19, .f32⟩ : BufTy).Contents (Elt F)),
   binary main_cst main_v11 main_v12 (addf : (⟨S19, .f32⟩ : BufTy).Contents (Elt F) → (⟨S19, .f32⟩ : BufTy).Contents (Elt F) → (⟨S19, .f32⟩ : BufTy).Contents (Elt F)),
   nullary main_cst_7 (constant S_ .f32 0x4E6E6B28#32),
   TRef.unary (.of main_cst_7) (.of main_call1_v0 : TRef sig ⟨S_, .f32⟩) id,
   TRef.unary (.of main_call1_v0 : TRef sig ⟨S_, .f32⟩) (.of main_call1_v1 : TRef sig ⟨S19, .f32⟩) (broadcastInDim S19 ![] bcast_S_S19),
   TRef.ternary (.of main_v9) (.of main_v12) (.of main_call1_v1 : TRef sig ⟨S19, .f32⟩) (.of main_v13 : TRef sig ⟨S19, .f32⟩) select,
   nary ![main_v6, main_v7, main_v13, main_v0] main_v14 (fun u => (concatenate S64 0 [⟨S19, (u 0 : (⟨S19, .f32⟩ : BufTy).Contents (Elt F))⟩, ⟨S13, (u 1 : (⟨S13, .f32⟩ : BufTy).Contents (Elt F))⟩, ⟨S19, (u 2 : (⟨S19, .f32⟩ : BufTy).Contents (Elt F))⟩, ⟨S13, (u 3 : (⟨S13, .f32⟩ : BufTy).Contents (Elt F))⟩] concatenates_S19_S13_S19_S13_S64_d0 : (⟨S64, .f32⟩ : BufTy).Contents (Elt F)))]

/-- The lines after the call: the two sums, and their quotient where anything was counted. -/
def postOps : List (HloOp τ sig (Elt F)) :=
  [unary main_v15 main_v16 ((extractStridedSlice S512 ![0] · slices_S1024_S512_0) : (⟨S1024, .f32⟩ : BufTy).Contents (Elt F) → (⟨S512, .f32⟩ : BufTy).Contents (Elt F)),
   nullary main_cst_8 (constant S_ .f32 0x00000000#32),
   binary main_v16 main_cst_8 main_v17 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
   unary main_v15 main_v18 ((extractStridedSlice S512 ![512] · slices_S1024_S512_512) : (⟨S1024, .f32⟩ : BufTy).Contents (Elt F) → (⟨S512, .f32⟩ : BufTy).Contents (Elt F)),
   nullary main_cst_9 (constant S_ .f32 0x00000000#32),
   binary main_v18 main_cst_9 main_v19 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
   nullary main_cst_10 (constant S_ .f32 0x3F800000#32),
   binary main_v19 main_cst_10 main_v20 (cmpf .olt : (⟨S_, .f32⟩ : BufTy).Contents (Elt F) → (⟨S_, .f32⟩ : BufTy).Contents (Elt F) → (⟨S_, .i1⟩ : BufTy).Contents (Elt F)),
   nullary main_cst_11 (constant S_ .f32 0x3F800000#32),
   binary main_v19 main_cst_11 main_v21 (maximumf : (⟨S_, .f32⟩ : BufTy).Contents (Elt F) → (⟨S_, .f32⟩ : BufTy).Contents (Elt F) → (⟨S_, .f32⟩ : BufTy).Contents (Elt F)),
   binary main_v17 main_v21 main_v22 (Host.divf : (⟨S_, .f32⟩ : BufTy).Contents (Elt F) → (⟨S_, .f32⟩ : BufTy).Contents (Elt F) → (⟨S_, .f32⟩ : BufTy).Contents (Elt F)),
   nullary main_cst_12 (constant S_ .f32 0x00000000#32),
   TRef.ternary (.of main_v20) (.of main_cst_12) (.of main_v22) (.of main_v23 : TRef sig ⟨S_, .f32⟩) select]

/-- The host program is the first lines, the call, the last lines. -/
theorem main_eq (d : Dev nD) : main (F := F) d = (seq preOps >>= fun _ => (sc (F := F)).run d 0 >>= fun _ => seq postOps) := by
  rfl

/-- Every line touches arrays of the host alone, -/
theorem preOps_bufs : ∀ op ∈ preOps (F := F), op.bufs ⊆ tcRefs τ sig := by
  rw [← List.forall_iff_forall_mem]; unfold preOps; simp
theorem postOps_bufs : ∀ op ∈ postOps (F := F), op.bufs ⊆ tcRefs τ sig := by
  rw [← List.forall_iff_forall_mem]; unfold postOps; simp
/-- and allocates none. -/
theorem preOps_fresh : ∀ op ∈ preOps (F := F), op.fresh = ∅ := by
  rw [← List.forall_iff_forall_mem]; unfold preOps; simp only [List.Forall]; and_intros <;> rfl
theorem postOps_fresh : ∀ op ∈ postOps (F := F), op.fresh = ∅ := by
  rw [← List.forall_iff_forall_mem]; unfold postOps; simp only [List.Forall]; and_intros <;> rfl

end Cert.Proof

end
-- ==== Proof.Row.lean ====
/-
  One row of the kernel's inner loop. What the sixteen lanes accumulate over a row, a chunk of eight rows and a subcore's
  32 chunks, as plain iterated functions of the pixels; the loop body common to the sixteen printed inner loops; and the
  rule that runs any of them.
-/
module

public import proofs.«01_k».proof.Proof.Setup
public import Idealize.ShloMosaic.Lib.Pipeline.Value

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What is accumulated -/

/-- `f 0`, then `f 1`, …, then `f (n - 1)`, from `a`. -/
def iter {α : Type} (f : ℕ → α → α) : ℕ → α → α
  | 0, a => a
  | n + 1, a => f n (iter f n a)

/-- A table of 32 words read at each lane's class. -/
def lookup (t : Vec F S32 .f32) (s : IVec S16 32) : FVec F S16 .f32 :=
  fun x => t fun | 0 => ⟨(s x).toNat % 32, Nat.mod_lt _ (by decide)⟩

/-- Sixteen lanes' distances of `e` outside the bounds of their classes. -/
def penV (lo hi : Vec F S32 .f32) (e : FVec F S16 .f32) (s : IVec S16 32) : FVec F S16 .f32 :=
  maximumf (maximumf (subf (lookup lo s) e) (subf e (lookup hi s))) (broadcast S16 (Scalar.ofBits .f32 0x00000000#32))

/-- Sixteen lanes' indicators that the upper bound of their class is below 2. -/
def cntV (hi : Vec F S32 .f32) (s : IVec S16 32) : FVec F S16 .f32 :=
  select (cmpf .olt (lookup hi s) (broadcast S16 (Scalar.ofBits .f32 0x40000000#32)))
    (broadcast S16 (Scalar.ofBits .f32 0x3F800000#32)) (broadcast S16 (Scalar.ofBits .f32 0x00000000#32))

/-- What a loop carries: the even groups' distances and counts, then the odd groups'. -/
abbrev Acc (F : FTy → Type) : Type := FVec F S16 .f32 × FVec F S16 .f32 × FVec F S16 .f32 × FVec F S16 .f32

/-- The `k`-th group of sixteen columns of a row. -/
def grp {α : Type} (e : ℕ → α) (k : ℕ) : S16.Idx → α := fun x => e (16 * k + (x 0).val)

/-- Trip `t`: group `2 t` into the first pair of sums, group `2 t + 1` into the second. -/
def tripAcc (lo hi : Vec F S32 .f32) (e : ℕ → F .f32) (s : ℕ → BitVec 32) (t : ℕ) (a : Acc F) : Acc F :=
  (addf a.1 (penV lo hi (grp e (2 * t)) (grp s (2 * t))), addf a.2.1 (cntV hi (grp s (2 * t))),
    addf a.2.2.1 (penV lo hi (grp e (2 * t + 1)) (grp s (2 * t + 1))), addf a.2.2.2 (cntV hi (grp s (2 * t + 1))))

/-- A row: sixteen trips. -/
def rowAcc (lo hi : Vec F S32 .f32) (e : ℕ → F .f32) (s : ℕ → BitVec 32) (a : Acc F) : Acc F :=
  iter (tripAcc lo hi e s) 16 a

/-- A chunk: eight rows, from row `R`. -/
def chunkAcc (lo hi : Vec F S32 .f32) (e : ℕ → ℕ → F .f32) (s : ℕ → ℕ → BitVec 32) (R : ℕ) (a : Acc F) : Acc F :=
  iter (fun r => rowAcc lo hi (e (R + r)) (s (R + r))) 8 a

/-! ## The loop body, once -/

/-- The check before a lookup: every lane's class is a row of the table. -/
abbrev Chk (v : IVec S16 32) : Prop := k0_chk1 v

/-- Sixteen columns of a buffer of eight rows, from the offsets `o`. -/
abbrev rect16 (o : Fin 2 → ℕ) (h : ∀ a, o a + S1x16.size a ≤ S8x512.size a) : Rect S8x512 := Rect.unit (s := S8x512) o S1x16.size h

/-- A trip of an inner loop, over the two buffers it reads and its two offsets: the sixteen printed bodies are this one
    at the buffers and offsets of each. -/
def rowBody (L : grid0.Coords) (ev : Memref sig .scVector .vmem S8x512 .f32) (sv : Memref sig .scVector .vmem S8x512 .i32) {n : ℕ}
    (oA oB : Fin n → Fin 2 → ℕ) (hA : ∀ t a, oA t a + S1x16.size a ≤ S8x512.size a) (hB : ∀ t a, oB t a + S1x16.size a ≤ S8x512.size a)
    (t : Fin n) (a : Acc F) : Prog (TpuEff nD τ sig (Elt F) Λ₀ (.scVector (cV L) (jV L))) (Acc F) := do
  let s0 : Vec F S1x16 .i32 ← Prog.lift (.load sv (rect16 (oA t) (hA t)).toLoadRect (View.loadsAt_vmem h_S1x16))
  have h0 : Chk (shapeCast S16 s0 shapeCasts_S1x16_S16) := (← Prog.lift (TpuEff.assume _ (k0_chk1.dec _))).down
  let e0 : Vec F S1x16 .f32 ← Prog.lift (.load ev (rect16 (oA t) (hA t)).toLoadRect (View.loadsAt_vmem h_S1x16))
  let l0 : Vec F S16 .f32 ← SparseCore.vectorLoadIdx loM ![shapeCast S16 s0 shapeCasts_S1x16_S16] h0.1 (View.loads_vmem h_S32)
  let u0 : Vec F S16 .f32 ← SparseCore.vectorLoadIdx hiM ![shapeCast S16 s0 shapeCasts_S1x16_S16] h0.2 (View.loads_vmem h_S32)
  let s1 : Vec F S1x16 .i32 ← Prog.lift (.load sv (rect16 (oB t) (hB t)).toLoadRect (View.loadsAt_vmem h_S1x16))
  have h1 : Chk (shapeCast S16 s1 shapeCasts_S1x16_S16) := (← Prog.lift (TpuEff.assume _ (k0_chk1.dec _))).down
  let e1 : Vec F S1x16 .f32 ← Prog.lift (.load ev (rect16 (oB t) (hB t)).toLoadRect (View.loadsAt_vmem h_S1x16))
  let l1 : Vec F S16 .f32 ← SparseCore.vectorLoadIdx loM ![shapeCast S16 s1 shapeCasts_S1x16_S16] h1.1 (View.loads_vmem h_S32)
  let u1 : Vec F S16 .f32 ← SparseCore.vectorLoadIdx hiM ![shapeCast S16 s1 shapeCasts_S1x16_S16] h1.2 (View.loads_vmem h_S32)
  pure (k0_pay3 a.1 e0 l0 u0, k0_pay4 a.2.1 u0, k0_pay67 a.2.2.1 (k0_pay5 e1 l1 u1) (k0_pay6 (F := F)), k0_pay68 a.2.2.2 u1)

/-! ## What a trip reads -/

/-- Lane `j` as an index of a one-row block. -/
def lane (j : S16.Idx) : S1x16.Idx := fun | 0 => ⟨0, by decide⟩ | 1 => ⟨(j 0).val, (j 0).isLt⟩

/-- Sixteen columns of row `r` from column `16 k`, read off a view whose element at row `r` and column `c` is `E r c`,
    are group `k` of row `r`. -/
theorem read_grp {e : EltTy} {ev : Memref sig .scVector .vmem S8x512 e} {f : ev.view.ty.Contents (Elt F)} {E : ℕ → ℕ → Elt F e}
    (hE : ∀ x, ev.view.read (Elt F) f x = E (x 0).val (x 1).val) {o : Fin 2 → ℕ} (h : ∀ a, o a + S1x16.size a ≤ S8x512.size a)
    {r k : ℕ} (ho : o = ![r, 16 * k]) :
    shapeCast S16 (ev.view.readAt (Elt F) (rect16 o h).toLoadRect f : Vec F S1x16 e) shapeCasts_S1x16_S16 = grp (E r) k := by
  subst ho
  funext j
  have hk : (S1x16.rowMajor (lane j)).val = (S16.rowMajor j).val := by
    revert j; decide +kernel
  rw [shapeCast_apply _ _ j (lane j) hk]
  show ev.view.read (Elt F) f ((rect16 _ h).toLoadRect.idx _) = _
  rw [hE]
  unfold grp
  have h0 : (((rect16 ![r, 16 * k] h).toLoadRect.idx (lane j)) 0).val = r := show r + 1 * 0 = r by omega
  have h1 : (((rect16 ![r, 16 * k] h).toLoadRect.idx (lane j)) 1).val = 16 * k + (j 0).val :=
    show 16 * k + 1 * (j 0).val = 16 * k + (j 0).val by omega
  rw [h0, h1]

/-- An indexed load off a table of 32 words, at classes below 32, is the table at each class. -/
theorem loadIdx_lookup (t : Vec F S32 .f32) (s : IVec S16 32) (h : ∀ a x, ((![s] : Fin 1 → IVec S16 32) a x).toNat < S32.size a) :
    loadIdx t ![s] h = lookup t s := by
  funext x
  unfold loadIdx lookup
  congr 1
  funext a
  fin_cases a
  refine Fin.ext ?_
  have := h 0 x
  exact (Nat.mod_eq_of_lt this).symm

theorem chk_of_lt {s : IVec S16 32} (h : ∀ x, (s x).toNat < 32) : Chk s := by
  have h' : ∀ a x, ((![s] : Fin 1 → IVec S16 32) a x).toNat < S32.size a := fun a x => by fin_cases a; exact h x
  exact ⟨h', h'⟩

/-- What the body's operations compute of two groups of lanes is a trip's accumulation. -/
theorem trip_val (lo hi : Vec F S32 .f32) (e0 e1 : Vec F S1x16 .f32) (s0 s1 : Vec F S1x16 .i32) (a : Acc F) {E : ℕ → F .f32} {S : ℕ → BitVec 32}
    {t : ℕ} (hE0 : shapeCast S16 e0 shapeCasts_S1x16_S16 = grp E (2 * t)) (hS0 : shapeCast S16 s0 shapeCasts_S1x16_S16 = grp S (2 * t))
    (hE1 : shapeCast S16 e1 shapeCasts_S1x16_S16 = grp E (2 * t + 1)) (hS1 : shapeCast S16 s1 shapeCasts_S1x16_S16 = grp S (2 * t + 1))
    (c0 : Chk (shapeCast S16 s0 shapeCasts_S1x16_S16)) (c1 : Chk (shapeCast S16 s1 shapeCasts_S1x16_S16)) :
    (k0_pay3 a.1 e0 (loadIdx lo ![shapeCast S16 s0 shapeCasts_S1x16_S16] c0.1) (loadIdx hi ![shapeCast S16 s0 shapeCasts_S1x16_S16] c0.2),
      k0_pay4 a.2.1 (loadIdx hi ![shapeCast S16 s0 shapeCasts_S1x16_S16] c0.2),
      k0_pay67 a.2.2.1 (k0_pay5 e1 (loadIdx lo ![shapeCast S16 s1 shapeCasts_S1x16_S16] c1.1) (loadIdx hi ![shapeCast S16 s1 shapeCasts_S1x16_S16] c1.2)) (k0_pay6 (F := F)),
      k0_pay68 a.2.2.2 (loadIdx hi ![shapeCast S16 s1 shapeCasts_S1x16_S16] c1.2))
    = tripAcc lo hi E S t a := by
  unfold tripAcc
  rw [← hE0, ← hS0, ← hE1, ← hS1]
  simp only [loadIdx_lookup]
  rfl

/-- One trip: from the two tables and the two buffers, the accumulators after it. -/
theorem wp_trip (d : Dev nD) (L : grid0.Coords) (ev : Memref sig .scVector .vmem S8x512 .f32) (sv : Memref sig .scVector .vmem S8x512 .i32)
    {n : ℕ} (oA oB : Fin n → Fin 2 → ℕ) (hA : ∀ t a, oA t a + S1x16.size a ≤ S8x512.size a) (hB : ∀ t a, oB t a + S1x16.size a ≤ S8x512.size a)
    {r : ℕ} (hoA : ∀ t, oA t = ![r, 32 * t.val]) (hoB : ∀ t, oB t = ![r, 32 * t.val + 16])
    (flo : Buf (Elt F) ((thr d L).loc cc0_scratch0)) (fhi : Buf (Elt F) ((thr d L).loc cc0_scratch1))
    (fe : Buf (Elt F) (ev.view.loc (thr d L))) (fs : Buf (Elt F) (sv.view.loc (thr d L)))
    {E : ℕ → ℕ → F .f32} {S : ℕ → ℕ → BitVec 32}
    (hE : ∀ x, ev.view.read (Elt F) fe x = E (x 0).val (x 1).val) (hS : ∀ x, sv.view.read (Elt F) fs x = S (x 0).val (x 1).val)
    (hlt : ∀ r c, (S r c).toNat < 32) (t : Fin n) (a : Acc F) {Q : Acc F → sProp 𝕄} :
    iprop(((thr d L).loc cc0_scratch0 ↦{fullShare} flo) ∗ ((thr d L).loc cc0_scratch1 ↦{fullShare} fhi)
        ∗ (ev.view.loc (thr d L) ↦{fullShare} fe) ∗ (sv.view.loc (thr d L) ↦{fullShare} fs))
      ⊢ iprop((((thr d L).loc cc0_scratch0 ↦{fullShare} flo) ∗ ((thr d L).loc cc0_scratch1 ↦{fullShare} fhi)
          ∗ (ev.view.loc (thr d L) ↦{fullShare} fe) ∗ (sv.view.loc (thr d L) ↦{fullShare} fs)
          -∗ Q (tripAcc (F := F) flo fhi (E r) (S r) t.val a))
        -∗ wp frame (wpE (defs₀ (F := F)) 𝒱₀ (thr d L) none) Set.univ (rowBody L ev sv oA oB hA hB t a) Q) := by
  have hgA : oA t = ![r, 16 * (2 * t.val)] := by rw [hoA]; congr 2; ring
  have hgB : oB t = ![r, 16 * (2 * t.val + 1)] := by rw [hoB]; congr 2; ring
  have eS0 := read_grp (F := F) (ev := sv) hS (hA t) hgA
  have eE0 := read_grp (F := F) (ev := ev) hE (hA t) hgA
  have eS1 := read_grp (F := F) (ev := sv) hS (hB t) hgB
  have eE1 := read_grp (F := F) (ev := ev) hE (hB t) hgB
  have c0 := chk_of_lt (s := grp (S r) (2 * t.val)) fun x => hlt r _
  have c1 := chk_of_lt (s := grp (S r) (2 * t.val + 1)) fun x => hlt r _
  rw [← eS0] at c0
  rw [← eS1] at c1
  iintro ⟨Hlo, Hhi, He, Hs⟩; iintro Hk
  unfold rowBody
  simp only [Prog.lift, Prog.bind_op, Prog.bind_ret, Prog.pure_eq_ret]
  iapply (wp_load 𝒱₀ (thr d L) none Set.univ (m := sv) (S := Finset.univ) (Finset.subset_univ _)) $$ Hs; iintro Hs
  rw [wp_assume_of _ _ _ _ c0]
  iapply (wp_load 𝒱₀ (thr d L) none Set.univ (m := ev) (S := Finset.univ) (Finset.subset_univ _)) $$ He; iintro He
  iapply (SparseCore.wp_vectorLoadIdx 𝒱₀ (thr d L) none Set.univ (base := loM) (S := Finset.univ) (q := fullShare) (f := flo) (Finset.subset_univ _)) $$ Hlo; iintro Hlo
  iapply (SparseCore.wp_vectorLoadIdx 𝒱₀ (thr d L) none Set.univ (base := hiM) (S := Finset.univ) (q := fullShare) (f := fhi) (Finset.subset_univ _)) $$ Hhi; iintro Hhi
  iapply (wp_load 𝒱₀ (thr d L) none Set.univ (m := sv) (S := Finset.univ) (Finset.subset_univ _)) $$ Hs; iintro Hs
  rw [wp_assume_of _ _ _ _ c1]
  iapply (wp_load 𝒱₀ (thr d L) none Set.univ (m := ev) (S := Finset.univ) (Finset.subset_univ _)) $$ He; iintro He
  iapply (SparseCore.wp_vectorLoadIdx 𝒱₀ (thr d L) none Set.univ (base := loM) (S := Finset.univ) (q := fullShare) (f := flo) (Finset.subset_univ _)) $$ Hlo; iintro Hlo
  iapply (SparseCore.wp_vectorLoadIdx 𝒱₀ (thr d L) none Set.univ (base := hiM) (S := Finset.univ) (q := fullShare) (f := fhi) (Finset.subset_univ _)) $$ Hhi; iintro Hhi
  rw [wp_ret]; imodintro
  have hlo : View.read (Elt F) (loM.access (Rect.whole S32)) flo = flo := by
    funext x; exact congrArg flo (LoadRect.idx_whole (s := S32) x)
  have hhi : View.read (Elt F) (hiM.access (Rect.whole S32)) fhi = fhi := by
    funext x; exact congrArg fhi (LoadRect.idx_whole (s := S32) x)
  have hv := (trip_val (F := F) (View.read (Elt F) (loM.access (Rect.whole S32)) flo) (View.read (Elt F) (hiM.access (Rect.whole S32)) fhi)
    _ _ _ _ a eE0 eS0 eE1 eS1 c0 c1).trans (by rw [hlo, hhi] : _ = tripAcc (F := F) flo fhi (E r) (S r) t.val a)
  iapply (Entails.of_eq (congrArg Q hv.symm))
  iapply Hk
  isplitl [Hlo]; · iexact Hlo
  isplitl [Hhi]; · iexact Hhi
  isplitl [He]; · iexact He
  iexact Hs

/-- A row: any printed loop of sixteen trips whose body is the one above at row `r` runs from the two tables and the two
    buffers to the accumulators after that row. -/
theorem wp_row (d : Dev nD) (L : grid0.Coords) (lp : Scf.Loop 32) (hok : Scf.OK lp.lb lp.ub lp.st) (hlp : lp.trips = 16)
    (ev : Memref sig .scVector .vmem S8x512 .f32) (sv : Memref sig .scVector .vmem S8x512 .i32)
    (oA oB : Fin lp.trips → Fin 2 → ℕ) (hA : ∀ t a, oA t a + S1x16.size a ≤ S8x512.size a) (hB : ∀ t a, oB t a + S1x16.size a ≤ S8x512.size a)
    {r : ℕ} (hoA : ∀ t, oA t = ![r, 32 * t.val]) (hoB : ∀ t, oB t = ![r, 32 * t.val + 16])
    (body : Fin lp.trips → Acc F → Prog (TpuEff nD τ sig (Elt F) Λ₀ (.scVector (cV L) (jV L))) (Acc F)) (hbody : body = rowBody L ev sv oA oB hA hB)
    (flo : Buf (Elt F) ((thr d L).loc cc0_scratch0)) (fhi : Buf (Elt F) ((thr d L).loc cc0_scratch1))
    (fe : Buf (Elt F) (ev.view.loc (thr d L))) (fs : Buf (Elt F) (sv.view.loc (thr d L)))
    {E : ℕ → ℕ → F .f32} {S : ℕ → ℕ → BitVec 32}
    (hE : ∀ x, ev.view.read (Elt F) fe x = E (x 0).val (x 1).val) (hS : ∀ x, sv.view.read (Elt F) fs x = S (x 0).val (x 1).val)
    (hlt : ∀ r c, (S r c).toNat < 32) (a : Acc F) {β : Type} {kk : Acc F → Prog (TpuEff nD τ sig (Elt F) Λ₀ (.scVector (cV L) (jV L))) β}
    {Q : β → sProp 𝕄} :
    iprop(((thr d L).loc cc0_scratch0 ↦{fullShare} flo) ∗ ((thr d L).loc cc0_scratch1 ↦{fullShare} fhi)
        ∗ (ev.view.loc (thr d L) ↦{fullShare} fe) ∗ (sv.view.loc (thr d L) ↦{fullShare} fs))
      ⊢ iprop((((thr d L).loc cc0_scratch0 ↦{fullShare} flo) ∗ ((thr d L).loc cc0_scratch1 ↦{fullShare} fhi)
          ∗ (ev.view.loc (thr d L) ↦{fullShare} fe) ∗ (sv.view.loc (thr d L) ↦{fullShare} fs)
          -∗ ∀ b, ⌜b = rowAcc (F := F) flo fhi (E r) (S r) a⌝
            -∗ wp frame (wpE (defs₀ (F := F)) 𝒱₀ (thr d L) none) Set.univ (kk b) Q)
        -∗ wp frame (wpE (defs₀ (F := F)) 𝒱₀ (thr d L) none) Set.univ (Scf.Loop.for lp hok a body >>= kk) Q) := by
  subst hbody
  iintro H; iintro Hk
  iapply (Scf.wp_for_bind frame (wpE (defs₀ (F := F)) 𝒱₀ (thr d L) none) Set.univ lp.lb lp.ub lp.st hok a _
    (fun n b => iprop(⌜b = iter (tripAcc (F := F) flo fhi (E r) (S r)) n a⌝ ∗ ((thr d L).loc cc0_scratch0 ↦{fullShare} flo) ∗ ((thr d L).loc cc0_scratch1 ↦{fullShare} fhi)
        ∗ (ev.view.loc (thr d L) ↦{fullShare} fe) ∗ (sv.view.loc (thr d L) ↦{fullShare} fs))) ?hb) $$ [H]
  case hb =>
    intro t b
    iintro ⟨%hb, H⟩
    iapply (wp_trip d L ev sv oA oB hA hB hoA hoB flo fhi fe fs hE hS hlt t b) $$ H
    iintro H
    isplitr
    · ipureintro; rw [hb]; rfl
    · iexact H
  · isplitr
    · ipureintro; rfl
    · iexact H
  iintro %b ⟨%hb, H⟩
  have hb' : b = rowAcc (F := F) flo fhi (E r) (S r) a := by rw [hb]; unfold rowAcc; rw [← hlp]
  ihave Hk := Hk $$ H
  iapply Hk
  ipureintro
  exact hb'

end Cert.Proof

end
-- ==== Proof.Copy.lean ====
/-
  The kernel's copies into a subcore's own memory. A copy in flight holds a share of its source and its destination
  outright, and gives back, at the wait, the source and the destination reading what the source did. And what the two
  big arrays read, as maps of 8192 rows of 512 columns.
-/
module

public import proofs.«01_k».proof.Proof.Row
public import Idealize.ShloMosaic.Lib.Transfers

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A copy in flight on `sem`, from a source held at share `q` in the array at `ℓ` to the whole of the buffer behind
    `dst`: at the wait, `dst` reads `v`, and the array is back. -/
def Fly (d : Dev nD) (L : grid0.Coords) (ℓ : Loc nD τ sig) (q : PosShare TreeShare) (fs : Buf (Elt F) ℓ) (sem : DmaSem sig) {s : Shape} {e : EltTy}
    (dst : Memref sig .scVector .vmem s e) (v : s.Idx → Elt F e) : sProp 𝕄 :=
  iprop(∃ S : Finset (Idx ℓ), Flight (EC (F := F)) (thr d L) (SemLoc.dma sem) none dst.view.dmaCredit
      iprop((∃ f, ⌜dst.view.read (Elt F) f = v⌝ ∗ dst.view.loc (thr d L) ↦{fullShare} f) ∗ ℓ ↦[S]{q} fs)
    ∗ ℓ ↦[Finset.univ \ S]{q} fs)

/-- A copy's issue. -/
theorem wp_fire (d : Dev nD) (L : grid0.Coords) {s : Shape} {e : EltTy} (src : Memref sig .scVector .hbm s e)
    (dst : Memref sig .scVector .vmem s e) {sem : DmaSem sig} {hsrc : src.view.WordExact} {hdst : dst.view.WordExact}
    {hsem : DmaTarget.Typed (nD := nD) Space.hbm (SemLoc.dma sem : SemLoc sig) (DmaTarget.here (τ := τ) (p := .scVector (cV L) (jV L)) dst)} (hc : 0 < dst.view.dmaCredit)
    {q : PosShare TreeShare} {fs : Buf (Elt F) (src.view.loc (thr d L))} {fd : Buf (Elt F) (dst.view.loc (thr d L))} {v : s.Idx → Elt F e}
    (hv : src.view.read (Elt F) fs = v)
    {α : Type} {k : PUnit → Prog (TpuEff nD τ sig (Elt F) Λ₀ (.scVector (cV L) (jV L))) α} {Q : α → sProp 𝕄} :
    iprop((src.view.loc (thr d L) ↦{q} fs) ∗ (dst.view.loc (thr d L) ↦{fullShare} fd) ∗ semVal (thr d L, SemLoc.dma sem) 0)
      ⊢ iprop((Fly d L (src.view.loc (thr d L)) q fs sem dst v -∗ wp frame (wpE (defs₀ (F := F)) 𝒱₀ (thr d L) none) Set.univ (k ⟨⟩) Q)
        -∗ wp frame (wpE (defs₀ (F := F)) 𝒱₀ (thr d L) none) Set.univ (.op (.enqueueDma src (.here dst) (.dma sem) hsrc hdst hsem) k) Q) := by
  iintro ⟨Hs, Hd, Hc⟩; iintro Hk
  ihave ⟨Hs, Hrest⟩ := (pointsTo_split_subset (Finset.subset_univ src.view.set)).1 $$ Hs
  iapply (wp_dmaLocal EC 𝒱₀ (thr d L) none (src := src) (dst := dst) none dst.view.dmaCredit rfl hc (Finset.subset_univ _)) $$ [Hs Hd Hc]
  · isplitl [Hs]; · iexact Hs
    isplitl [Hd]; · iexact Hd
    iexact Hc
  iintro Hf
  iapply Hk
  unfold Fly
  iexists src.view.set
  isplitl [Hf]
  · iapply (Flight_mono EC (thr d L) (sep_mono_left ?_)) $$ Hf
    iintro Hd
    iexists _
    isplitr
    rotate_left
    · iexact Hd
    · ipureintro
      rw [View.read_write_univ]
      exact hv
  · iexact Hrest

/-- What a subcore owes through the call, with the waits it has recorded: beyond `W`, waits of its own only. -/
def Ow (d : Dev nD) (L : grid0.Coords) (O : CellTallies nD τ sig (HIx 1)) (W : Waits sig (HIx 1)) : sProp 𝕄 :=
  iprop(∃ W' : Waits sig (HIx 1), ⌜∀ p ∈ W', p ∈ W ∨ p.2 = none⌝ ∗ owes (thr d L) O W')

/-- A copy's wait, whatever source the wait names. -/
theorem wp_arrive (d : Dev nD) (L : grid0.Coords) {s s' : Shape} {e e' : EltTy} {ℓ : Loc nD τ sig} (srcw : Memref sig .scVector .hbm s' e')
    (dst : Memref sig .scVector .vmem s e) {sem : DmaSem sig} {hsrc : srcw.view.WordExact} {hdst : dst.view.WordExact}
    {q : PosShare TreeShare} {fs : Buf (Elt F) ℓ} {v : s.Idx → Elt F e} {O : CellTallies nD τ sig (HIx 1)} {W : Waits sig (HIx 1)}
    {α : Type} {k : PUnit → Prog (TpuEff nD τ sig (Elt F) Λ₀ (.scVector (cV L) (jV L))) α} {Q : α → sProp 𝕄} :
    iprop(Fly d L ℓ q fs sem dst v ∗ Ow d L O W ∗ MayWaits (thr d L) none O)
      ⊢ iprop((((∃ f, ⌜dst.view.read (Elt F) f = v⌝ ∗ dst.view.loc (thr d L) ↦{fullShare} f) ∗ (ℓ ↦{q} fs)
            ∗ semVal (thr d L, SemLoc.dma sem) 0 ∗ Ow d L O W)
          -∗ wp frame (wpE (defs₀ (F := F)) 𝒱₀ (thr d L) none) Set.univ (k ⟨⟩) Q)
        -∗ wp frame (wpE (defs₀ (F := F)) 𝒱₀ (thr d L) none) Set.univ (.op (.waitDma2 sem srcw dst hsrc hdst) k) Q) := by
  unfold Fly Ow
  iintro ⟨⟨%S, Hf, Hrest⟩, ⟨%W', %hW, HO⟩, HM⟩; iintro Hk
  iapply (wp_waitLocalO EC 𝒱₀ (thr d L) none (dstw := dst) none rfl) $$ [Hf HO HM]
  · isplitl [Hf]; · iexact Hf
    isplitl [HO]; · iexact HO
    iapply (MayWaits.elim (SemLoc.dma sem)) $$ HM
  iintro ⟨⟨Hd, Hs⟩, Hc, HO⟩
  iapply Hk
  isplitl [Hd]; · iexact Hd
  isplitl [Hs Hrest]
  · iapply (pointsTo_split_subset (Finset.subset_univ S)).2 $$ [Hs Hrest]
    isplitl [Hs]; · iexact Hs
    iexact Hrest
  isplitl [Hc]; · iexact Hc
  iexists _
  isplitr
  rotate_left
  · iexact HO
  · ipureintro
    intro p hp
    rcases Finset.mem_insert.mp hp with h | h
    · exact .inr (by rw [h])
    · exact hW p h

/-! ## What the arrays read -/

/-- The emissivity map by row of all 8192 and column. -/
def pixE (f : S16x1x512x512.Idx → F .f32) (R C : ℕ) : F .f32 :=
  f fun | 0 => ⟨R / 512 % 16, Nat.mod_lt _ (by decide)⟩ | 1 => ⟨0, by decide⟩ | 2 => ⟨R % 512, Nat.mod_lt _ (by decide)⟩ | 3 => ⟨C % 512, Nat.mod_lt _ (by decide)⟩

/-- The class map by row of all 8192 and column. -/
def pixS (f : S16x512x512.Idx → BitVec 32) (R C : ℕ) : BitVec 32 :=
  f fun | 0 => ⟨R / 512 % 16, Nat.mod_lt _ (by decide)⟩ | 1 => ⟨R % 512, Nat.mod_lt _ (by decide)⟩ | 2 => ⟨C % 512, Nat.mod_lt _ (by decide)⟩

/-- Eight rows of the emissivity map, seen as 8192 rows of 512 columns, from the offsets `o`. -/
abbrev eRows (o : Fin 2 → ℕ) (h : ∀ a, o a + S8x512.size a ≤ S8192x512.size a) : Memref sig .scVector .hbm S8x512 .f32 :=
  (eV.reshape S8192x512 reshapes_S16x1x512x512_S8192x512.1 reshapes_S16x1x512x512_S8192x512.2 (Memref.isWhole_whole main_arg0_scv).contiguous).slice
    (Rect.unit (s := S8192x512) o S8x512.size h) (fun _ => rfl)

/-- Eight rows of the class map likewise. -/
abbrev sRows (o : Fin 2 → ℕ) (h : ∀ a, o a + S8x512.size a ≤ S8192x512.size a) : Memref sig .scVector .hbm S8x512 .i32 :=
  (sV.reshape S8192x512 reshapes_S16x512x512_S8192x512.1 reshapes_S16x512x512_S8192x512.2 (Memref.isWhole_whole main_arg1_scv).contiguous).slice
    (Rect.unit (s := S8192x512) o S8x512.size h) (fun _ => rfl)

/-- An index of the 8192 rows, by row and column. -/
theorem rect_row {o : Fin 2 → ℕ} (h : ∀ a, o a + S8x512.size a ≤ S8192x512.size a) {R : ℕ} (ho : o = ![R, 0]) (x : S8x512.Idx) :
    (((Rect.unit (s := S8192x512) o S8x512.size h).toLoadRect.idx x) 0).val = R + (x 0).val
      ∧ (((Rect.unit (s := S8192x512) o S8x512.size h).toLoadRect.idx x) 1).val = (x 1).val := by
  subst ho
  exact ⟨show R + 1 * (x 0).val = R + (x 0).val by omega, show 0 + 1 * (x 1).val = (x 1).val by omega⟩

/-- Eight rows of the emissivity map from row `R` read, at row `r` and column `c`, the map at row `R + r` and column `c`. -/
theorem read_eRows (f : S16x1x512x512.Idx → F .f32) {o : Fin 2 → ℕ} (h : ∀ a, o a + S8x512.size a ≤ S8192x512.size a) {R : ℕ} (ho : o = ![R, 0]) :
    (eRows o h).view.read (Elt F) f = fun x => pixE f (R + (x 0).val) (x 1).val := by
  funext x
  obtain ⟨h0, h1⟩ := rect_row h ho x
  show f (Shape.reshapeEquiv _ ((Rect.unit (s := S8192x512) o S8x512.size h).toLoadRect.idx x)) = _
  unfold pixE
  congr 1
  refine Shape.reshapeEquiv_eq_of_rowMajor _ ?_
  rw [Shape.rowMajor_val_four, Shape.rowMajor_val_two, h0, h1]
  have hR : R + (x 0).val < 8192 := h0 ▸ (((Rect.unit (s := S8192x512) o S8x512.size h).toLoadRect.idx x) 0).isLt
  have hC : (x 1).val < 512 := (x 1).isLt
  show (((R + (x 0).val) / 512 % 16 * 1 + 0) * 512 + (R + (x 0).val) % 512) * 512 + (x 1).val % 512 = (R + (x 0).val) * 512 + (x 1).val
  omega

/-- Eight rows of the class map likewise. -/
theorem read_sRows (f : S16x512x512.Idx → BitVec 32) {o : Fin 2 → ℕ} (h : ∀ a, o a + S8x512.size a ≤ S8192x512.size a) {R : ℕ} (ho : o = ![R, 0]) :
    (sRows o h).view.read (Elt F) f = fun x => pixS f (R + (x 0).val) (x 1).val := by
  funext x
  obtain ⟨h0, h1⟩ := rect_row h ho x
  show f (Shape.reshapeEquiv _ ((Rect.unit (s := S8192x512) o S8x512.size h).toLoadRect.idx x)) = _
  unfold pixS
  congr 1
  refine Shape.reshapeEquiv_eq_of_rowMajor _ ?_
  rw [Shape.rowMajor_val_three, Shape.rowMajor_val_two, h0, h1]
  have hR : R + (x 0).val < 8192 := h0 ▸ (((Rect.unit (s := S8192x512) o S8x512.size h).toLoadRect.idx x) 0).isLt
  have hC : (x 1).val < 512 := (x 1).isLt
  show ((R + (x 0).val) / 512 % 16 * 512 + (R + (x 0).val) % 512) * 512 + (x 1).val % 512 = (R + (x 0).val) * 512 + (x 1).val
  omega

end Cert.Proof

end
-- ==== Proof.Chunk.lean ====
/-
  One trip of the kernel's outer loop: two chunks of eight rows, each fetched while the other is summed.
-/
module

public import proofs.«01_k».proof.Proof.Copy

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A subcore's part of the maps -/

/-- The first of the 256 rows of the subcore at grid point `L`. -/
abbrev base (L : grid0.Coords) : ℕ := 512 * (L 1).val + 256 * (L 0).val

/-- Eight rows of a map of rows and columns, from row `R`. -/
def rows8 {α : Type} (g : ℕ → ℕ → α) (R : ℕ) : S8x512.Idx → α := fun x => g (R + (x 0).val) (x 1).val

/-- The accumulators after the first `n` chunks of the subcore whose rows start at `R`. -/
def tileAcc (lo hi : Vec F S32 .f32) (e : ℕ → ℕ → F .f32) (s : ℕ → ℕ → BitVec 32) (R n : ℕ) (a : Acc F) : Acc F :=
  iter (fun k => chunkAcc lo hi e s (R + 8 * k)) n a

/-- The bounds by class, as a subcore holds them. -/
abbrev Tables (d : Dev nD) (L : grid0.Coords) (lo hi : Vec F S32 .f32) : sProp 𝕄 :=
  iprop(((thr d L).loc cc0_scratch0 ↦{fullShare} (show Buf (Elt F) ((thr d L).loc cc0_scratch0) from lo))
    ∗ ((thr d L).loc cc0_scratch1 ↦{fullShare} (show Buf (Elt F) ((thr d L).loc cc0_scratch1) from hi)))

/-- Between trips `n - 1` and `n` of the outer loop: the accumulators hold the first `2 n` chunks; the copies of chunk
    `2 n` (of the last chunk after the last trip) are in flight to the first pair of buffers, the second pair is idle. -/
def Outer (d : Dev nD) (L : grid0.Coords) (O : CellTallies nD τ sig (HIx 1)) (W : Waits sig (HIx 1)) (q0 q1 : PosShare TreeShare)
    (lo hi : Vec F S32 .f32) (fe : Buf (Elt F) (eLoc d)) (fs : Buf (Elt F) (sLoc d)) (a0 : Acc F) (n : ℕ) (b : Acc F) : sProp 𝕄 :=
  iprop(MayWaits (thr d L) none O ∗ ⌜b = tileAcc lo hi (pixE fe) (pixS fs) (base L) (2 * n) a0⌝
    ∗ Tables d L lo hi
    ∗ Fly d L (eLoc d) q0 fe cc0_scratch7.sem e0M (rows8 (pixE fe) (base L + 8 * min (2 * n) 31))
    ∗ Fly d L (sLoc d) q0 fs cc0_scratch9.sem s0M (rows8 (pixS fs) (base L + 8 * min (2 * n) 31))
    ∗ (∃ f, e1M.view.loc (thr d L) ↦{fullShare} f) ∗ (∃ f, s1M.view.loc (thr d L) ↦{fullShare} f)
    ∗ (eLoc d ↦{q1} fe) ∗ (sLoc d ↦{q1} fs)
    ∗ semVal (thr d L, SemLoc.dma cc0_scratch8.sem) 0 ∗ semVal (thr d L, SemLoc.dma cc0_scratch10.sem) 0
    ∗ Ow d L O W)

theorem off2_fst (L : grid0.Coords) (t : Fin k0_t1_loop.trips) : k0_off2 L t 1#32 = ![base L + 8 * min (2 * t.val + 1) 31, 0] := by
  exact (k0_off2_eq L t 0).trans (by simp [base])

theorem off2_snd (L : grid0.Coords) (t : Fin k0_t1_loop.trips) : k0_off2 L t 2#32 = ![base L + 8 * min (2 * (t.val + 1)) 31, 0] := by
  exact (k0_off2_eq L t 1).trans (by simp [base, mul_add, add_assoc])

/-- Eight rows one after another are a chunk. -/
theorem chunk_of_rows {lo hi : Vec F S32 .f32} {e : ℕ → ℕ → F .f32} {s : ℕ → ℕ → BitVec 32} {R : ℕ} {a b0 b1 b2 b3 b4 b5 b6 b7 : Acc F}
    (h0 : b0 = rowAcc lo hi (e (R + 0)) (s (R + 0)) a) (h1 : b1 = rowAcc lo hi (e (R + 1)) (s (R + 1)) b0)
    (h2 : b2 = rowAcc lo hi (e (R + 2)) (s (R + 2)) b1) (h3 : b3 = rowAcc lo hi (e (R + 3)) (s (R + 3)) b2)
    (h4 : b4 = rowAcc lo hi (e (R + 4)) (s (R + 4)) b3) (h5 : b5 = rowAcc lo hi (e (R + 5)) (s (R + 5)) b4)
    (h6 : b6 = rowAcc lo hi (e (R + 6)) (s (R + 6)) b5) (h7 : b7 = rowAcc lo hi (e (R + 7)) (s (R + 7)) b6) :
    b7 = chunkAcc lo hi e s R a := by
  rw [h7, h6, h5, h4, h3, h2, h1, h0]
  rfl

set_option maxHeartbeats 1000000 in
/-- One trip of the outer loop. -/
theorem wp_outer (d : Dev nD) (L : grid0.Coords) (O : CellTallies nD τ sig (HIx 1)) (W : Waits sig (HIx 1)) (q0 q1 : PosShare TreeShare)
    (lo hi : Vec F S32 .f32) (fe : Buf (Elt F) (eLoc d)) (fs : Buf (Elt F) (sLoc d)) (hlt : ∀ R C, (pixS fs R C).toNat < 32)
    (a0 : Acc F) (v2 : BitVec 32) (t : Fin k0_t1_loop.trips) (b : Acc F) :
    Outer d L O W q0 q1 lo hi fe fs a0 t.val b
      ⊢ wp frame (wpE (defs₀ (F := F)) 𝒱₀ (thr d L) none) Set.univ
          (k0_t1_body L eV (Memref.isWhole_whole _) sV (Memref.isWhole_whole _) tV (Memref.isWhole_whole _) oV (Memref.isWhole_whole _) loM (Memref.isWhole_whole _) hiM (Memref.isWhole_whole _) e0M (Memref.isWhole_whole _) e1M (Memref.isWhole_whole _) s0M (Memref.isWhole_whole _) s1M (Memref.isWhole_whole _) outM (Memref.isWhole_whole _) cc0_scratch7 cc0_scratch8 cc0_scratch9 cc0_scratch10 cc0_scoped0 cc0_scoped1 cc0_scoped2 cc0_scoped3 v2 t b)
          (Outer d L O W q0 q1 lo hi fe fs a0 (t.val + 1)) := by
  have ht : t.val < 16 := t.isLt
  obtain ⟨p0, p1, p2, p3⟩ := b
  let E0 : ℕ → ℕ → F .f32 := fun r c => pixE fe (base L + 8 * (2 * t.val) + r) c
  let S0 : ℕ → ℕ → BitVec 32 := fun r c => pixS fs (base L + 8 * (2 * t.val) + r) c
  let E1 : ℕ → ℕ → F .f32 := fun r c => pixE fe (base L + 8 * (2 * t.val + 1) + r) c
  let S1 : ℕ → ℕ → BitVec 32 := fun r c => pixS fs (base L + 8 * (2 * t.val + 1) + r) c
  unfold Outer
  iintro ⟨#HM, %hb, ⟨Hlo, Hhi⟩, Fe0, Fs0, ⟨%fe1, He1⟩, ⟨%fs1, Hs1⟩, HE, HS, Ce1, Cs1, HO⟩
  unfold k0_t1_body
  rw [k0_part17_eq_skeleton, k0_part18_eq_skeleton]
  unfold k0_part17_skel k0_part18_skel
  simp only [Prog.lift, Prog.bind_op, Prog.bind_ret, Prog.pure_eq_ret, Prog.bind_assoc]
  -- the second pair of buffers: chunk `2 t + 1` on its way
  iapply (wp_fire d L (eRows _ (k0_off2_inb L t 0)) e1M (by decide) (q := q1) (fs := fe) (read_eRows fe _ (off2_fst L t))) $$ [HE He1 Ce1]
  · isplitl [HE]; · iexact HE
    isplitl [He1]; · iexact He1
    iexact Ce1
  iintro Fe1
  iapply (wp_fire d L (sRows _ (k0_off2_inb L t 0)) s1M (by decide) (q := q1) (fs := fs) (read_sRows fs _ (off2_fst L t))) $$ [HS Hs1 Cs1]
  · isplitl [HS]; · iexact HS
    isplitl [Hs1]; · iexact Hs1
    iexact Cs1
  iintro Fs1
  -- the first pair: chunk `2 t` is here, and summed
  iapply (wp_arrive d L _ e0M) $$ [Fe0 HO]
  · isplitl [Fe0]; · iexact Fe0
    isplitl [HO]; · iexact HO
    iexact HM
  iintro ⟨⟨%g0, %hg0, He0⟩, HE0, Ce0, HO⟩
  iapply (wp_arrive d L _ s0M) $$ [Fs0 HO]
  · isplitl [Fs0]; · iexact Fs0
    isplitl [HO]; · iexact HO
    iexact HM
  iintro ⟨⟨%k0, %hk0, Hs0⟩, HS0, Cs0, HO⟩
  obtain ⟨hE0, hS0⟩ : (∀ x, e0M.view.read (Elt F) g0 x = E0 (x 0).val (x 1).val) ∧ ∀ x, s0M.view.read (Elt F) k0 x = S0 (x 0).val (x 1).val := by
    rw [hg0, hk0, show min (2 * t.val) 31 = 2 * t.val by omega]; exact ⟨fun _ => rfl, fun _ => rfl⟩
  ihave H : iprop(((thr d L).loc cc0_scratch0 ↦{fullShare} (show Buf (Elt F) ((thr d L).loc cc0_scratch0) from lo))
    ∗ ((thr d L).loc cc0_scratch1 ↦{fullShare} (show Buf (Elt F) ((thr d L).loc cc0_scratch1) from hi))
    ∗ (e0M.view.loc (thr d L) ↦{fullShare} g0) ∗ (s0M.view.loc (thr d L) ↦{fullShare} k0)) $$ [Hlo Hhi He0 Hs0]
  · isplitl [Hlo]; · iexact Hlo
    isplitl [Hhi]; · iexact Hhi
    isplitl [He0]; · iexact He0
    iexact Hs0
  iapply (wp_row d L k0_t2_loop k0_t2_ok rfl e0M s0M k0_off3 k0_off4 k0_off3_inb k0_off4_inb k0_off3_eq k0_off4_eq _ rfl lo hi _ _ (E := E0) (S := S0) hE0 hS0 (fun _ _ => hlt _ _) _) $$ H; iintro H %b2 %h2
  iapply (wp_row d L k0_t3_loop k0_t3_ok rfl e0M s0M k0_off5 k0_off6 k0_off5_inb k0_off6_inb k0_off5_eq k0_off6_eq _ rfl lo hi _ _ (E := E0) (S := S0) hE0 hS0 (fun _ _ => hlt _ _) _) $$ H; iintro H %b3 %h3
  iapply (wp_row d L k0_t4_loop k0_t4_ok rfl e0M s0M k0_off7 k0_off8 k0_off7_inb k0_off8_inb k0_off7_eq k0_off8_eq _ rfl lo hi _ _ (E := E0) (S := S0) hE0 hS0 (fun _ _ => hlt _ _) _) $$ H; iintro H %b4 %h4
  iapply (wp_row d L k0_t5_loop k0_t5_ok rfl e0M s0M k0_off9 k0_off10 k0_off9_inb k0_off10_inb k0_off9_eq k0_off10_eq _ rfl lo hi _ _ (E := E0) (S := S0) hE0 hS0 (fun _ _ => hlt _ _) _) $$ H; iintro H %b5 %h5
  iapply (wp_row d L k0_t6_loop k0_t6_ok rfl e0M s0M k0_off11 k0_off12 k0_off11_inb k0_off12_inb k0_off11_eq k0_off12_eq _ rfl lo hi _ _ (E := E0) (S := S0) hE0 hS0 (fun _ _ => hlt _ _) _) $$ H; iintro H %b6 %h6
  iapply (wp_row d L k0_t7_loop k0_t7_ok rfl e0M s0M k0_off13 k0_off14 k0_off13_inb k0_off14_inb k0_off13_eq k0_off14_eq _ rfl lo hi _ _ (E := E0) (S := S0) hE0 hS0 (fun _ _ => hlt _ _) _) $$ H; iintro H %b7 %h7
  iapply (wp_row d L k0_t8_loop k0_t8_ok rfl e0M s0M k0_off15 k0_off16 k0_off15_inb k0_off16_inb k0_off15_eq k0_off16_eq _ rfl lo hi _ _ (E := E0) (S := S0) hE0 hS0 (fun _ _ => hlt _ _) _) $$ H; iintro H %b8 %h8
  iapply (wp_row d L k0_t9_loop k0_t9_ok rfl e0M s0M k0_off17 k0_off18 k0_off17_inb k0_off18_inb k0_off17_eq k0_off18_eq _ rfl lo hi _ _ (E := E0) (S := S0) hE0 hS0 (fun _ _ => hlt _ _) _) $$ H; iintro H %b9 %h9
  icases H with ⟨Hlo, Hhi, He0, Hs0⟩
  -- the first pair again: chunk `2 t + 2`, or the last chunk once more, on its way
  iapply (wp_fire d L (eRows _ (k0_off2_inb L t 1)) e0M (by decide) (q := q0) (fs := fe) (read_eRows fe _ (off2_snd L t))) $$ [HE0 He0 Ce0]
  · isplitl [HE0]; · iexact HE0
    isplitl [He0]; · iexact He0
    iexact Ce0
  iintro Fe0
  iapply (wp_fire d L (sRows _ (k0_off2_inb L t 1)) s0M (by decide) (q := q0) (fs := fs) (read_sRows fs _ (off2_snd L t))) $$ [HS0 Hs0 Cs0]
  · isplitl [HS0]; · iexact HS0
    isplitl [Hs0]; · iexact Hs0
    iexact Cs0
  iintro Fs0
  -- the second pair: chunk `2 t + 1` is here, and summed
  iapply (wp_arrive d L _ e1M) $$ [Fe1 HO]
  · isplitl [Fe1]; · iexact Fe1
    isplitl [HO]; · iexact HO
    iexact HM
  iintro ⟨⟨%g1, %hg1, He1⟩, HE, Ce1, HO⟩
  iapply (wp_arrive d L _ s1M) $$ [Fs1 HO]
  · isplitl [Fs1]; · iexact Fs1
    isplitl [HO]; · iexact HO
    iexact HM
  iintro ⟨⟨%k1, %hk1, Hs1⟩, HS, Cs1, HO⟩
  obtain ⟨hE1, hS1⟩ : (∀ x, e1M.view.read (Elt F) g1 x = E1 (x 0).val (x 1).val) ∧ ∀ x, s1M.view.read (Elt F) k1 x = S1 (x 0).val (x 1).val := by
    rw [hg1, hk1, show min (2 * t.val + 1) 31 = 2 * t.val + 1 by omega]; exact ⟨fun _ => rfl, fun _ => rfl⟩
  ihave H : iprop(((thr d L).loc cc0_scratch0 ↦{fullShare} (show Buf (Elt F) ((thr d L).loc cc0_scratch0) from lo))
    ∗ ((thr d L).loc cc0_scratch1 ↦{fullShare} (show Buf (Elt F) ((thr d L).loc cc0_scratch1) from hi))
    ∗ (e1M.view.loc (thr d L) ↦{fullShare} g1) ∗ (s1M.view.loc (thr d L) ↦{fullShare} k1)) $$ [Hlo Hhi He1 Hs1]
  · isplitl [Hlo]; · iexact Hlo
    isplitl [Hhi]; · iexact Hhi
    isplitl [He1]; · iexact He1
    iexact Hs1
  iapply (wp_row d L k0_t10_loop k0_t10_ok rfl e1M s1M k0_off19 k0_off20 k0_off19_inb k0_off20_inb k0_off19_eq k0_off20_eq _ rfl lo hi _ _ (E := E1) (S := S1) hE1 hS1 (fun _ _ => hlt _ _) _) $$ H; iintro H %b10 %h10
  iapply (wp_row d L k0_t11_loop k0_t11_ok rfl e1M s1M k0_off21 k0_off22 k0_off21_inb k0_off22_inb k0_off21_eq k0_off22_eq _ rfl lo hi _ _ (E := E1) (S := S1) hE1 hS1 (fun _ _ => hlt _ _) _) $$ H; iintro H %b11 %h11
  iapply (wp_row d L k0_t12_loop k0_t12_ok rfl e1M s1M k0_off23 k0_off24 k0_off23_inb k0_off24_inb k0_off23_eq k0_off24_eq _ rfl lo hi _ _ (E := E1) (S := S1) hE1 hS1 (fun _ _ => hlt _ _) _) $$ H; iintro H %b12 %h12
  iapply (wp_row d L k0_t13_loop k0_t13_ok rfl e1M s1M k0_off25 k0_off26 k0_off25_inb k0_off26_inb k0_off25_eq k0_off26_eq _ rfl lo hi _ _ (E := E1) (S := S1) hE1 hS1 (fun _ _ => hlt _ _) _) $$ H; iintro H %b13 %h13
  iapply (wp_row d L k0_t14_loop k0_t14_ok rfl e1M s1M k0_off27 k0_off28 k0_off27_inb k0_off28_inb k0_off27_eq k0_off28_eq _ rfl lo hi _ _ (E := E1) (S := S1) hE1 hS1 (fun _ _ => hlt _ _) _) $$ H; iintro H %b14 %h14
  iapply (wp_row d L k0_t15_loop k0_t15_ok rfl e1M s1M k0_off29 k0_off30 k0_off29_inb k0_off30_inb k0_off29_eq k0_off30_eq _ rfl lo hi _ _ (E := E1) (S := S1) hE1 hS1 (fun _ _ => hlt _ _) _) $$ H; iintro H %b15 %h15
  iapply (wp_row d L k0_t16_loop k0_t16_ok rfl e1M s1M k0_off31 k0_off32 k0_off31_inb k0_off32_inb k0_off31_eq k0_off32_eq _ rfl lo hi _ _ (E := E1) (S := S1) hE1 hS1 (fun _ _ => hlt _ _) _) $$ H; iintro H %b16 %h16
  iapply (wp_row d L k0_t17_loop k0_t17_ok rfl e1M s1M k0_off33 k0_off34 k0_off33_inb k0_off34_inb k0_off33_eq k0_off34_eq _ rfl lo hi _ _ (E := E1) (S := S1) hE1 hS1 (fun _ _ => hlt _ _) _) $$ H; iintro H %b17 %h17
  icases H with ⟨Hlo, Hhi, He1, Hs1⟩
  rw [wp_ret]; imodintro
  isplitr; · iexact HM
  isplitr
  · ipureintro
    have h0 := chunk_of_rows (e := pixE fe) (s := pixS fs) (R := base L + 8 * (2 * t.val)) h2 h3 h4 h5 h6 h7 h8 h9
    have h1 := chunk_of_rows (e := pixE fe) (s := pixS fs) (R := base L + 8 * (2 * t.val + 1)) h10 h11 h12 h13 h14 h15 h16 h17
    rw [hb] at h0
    rw [h0] at h1
    exact h1
  isplitl [Hlo Hhi]
  · isplitl [Hlo]; · iexact Hlo
    iexact Hhi
  isplitl [Fe0]; · iexact Fe0
  isplitl [Fs0]; · iexact Fs0
  isplitl [He1]; · iexists g1; iexact He1
  isplitl [Hs1]; · iexists k1; iexact Hs1
  isplitl [HE]; · iexact HE
  isplitl [HS]; · iexact HS
  isplitl [Ce1]; · iexact Ce1
  isplitl [Cs1]; · iexact Cs1
  iexact HO

end Cert.Proof

end
-- ==== Proof.Own.lean ====
/-
  A vector subcore's own buffers and semaphores: the kernel's seven buffers and eight semaphores, and the rest.
-/
module

public import proofs.«01_k».proof.Proof.Setup

@[expose] public section

noncomputable section

namespace Cert.Proof

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The kernel's semaphores of a subcore: the two pairs of buffers', then one for each copy of the set-up and the end. -/
def semsV : Finset (SemLoc sig) :=
  {.dma cc0_scratch7.sem, .dma cc0_scratch8.sem, .dma cc0_scratch9.sem, .dma cc0_scratch10.sem,
    .dma cc0_scoped0.sem, .dma cc0_scoped1.sem, .dma cc0_scoped2.sem, .dma cc0_scoped3.sem}

/-- The kernel's buffers of a subcore. -/
def bufsV : Finset (Ref sig .scVector) :=
  {cc0_scratch0, cc0_scratch1, cc0_scratch2, cc0_scratch3, cc0_scratch4, cc0_scratch5, cc0_scratch6}

variable (d : Dev nD) (L : grid0.Coords)

theorem semsV_own : semsV.image (fun sm => ((thr d L, sm) : GSem nD τ sig)) ⊆ ownCells (thr d L) := by
  intro g hg
  obtain ⟨sm, hsm, rfl⟩ := Finset.mem_image.mp hg
  refine mem_ownCells.mpr ⟨rfl, ?_⟩
  exact (by decide : ∀ sm ∈ semsV, (sm : SemLoc sig).isScoped .scVector = true) sm hsm

theorem bufsV_own : bufsV.image ((Proc.scVector (cV L) (jV L)).devRef (τ := τ) (sig := sig)) ⊆ ownRefs (τ := τ) (.scVector (cV L) (jV L)) := by
  intro b hb
  obtain ⟨r, hr, rfl⟩ := Finset.mem_image.mp hb
  refine SparseCore.Cfg.mem_ownRefs_of_owner (p := Proc.scVector (cV L) (jV L)) ?_
  revert hr
  unfold bufsV
  simp only [Finset.mem_insert, Finset.mem_singleton]
  rintro (rfl | rfl | rfl | rfl | rfl | rfl | rfl) <;> rfl

/-- The subcore's other semaphores, at zero. -/
def semsRest : sProp 𝕄 := bigSep (ownCells (thr d L) \ semsV.image fun sm => ((thr d L, sm) : GSem nD τ sig)) fun g => semVal g 0

/-- The subcore's other buffers. -/
def bufsRest : sProp 𝕄 :=
  bigSep (ownRefs (τ := τ) (.scVector (cV L) (jV L)) \ bufsV.image ((Proc.scVector (cV L) (jV L)).devRef (τ := τ) (sig := sig)))
    fun b => iprop(∃ f, ((d, b) : Loc nD τ sig) ↦{fullShare} f)

/-- A subcore's semaphores are the kernel's eight and the rest. -/
theorem ownSems0_eq :
    (ownSems0 (thr d L) : sProp 𝕄)
      = iprop((semVal (thr d L, .dma cc0_scratch7.sem) 0 ∗ semVal (thr d L, .dma cc0_scratch8.sem) 0 ∗ semVal (thr d L, .dma cc0_scratch9.sem) 0
          ∗ semVal (thr d L, .dma cc0_scratch10.sem) 0 ∗ semVal (thr d L, .dma cc0_scoped0.sem) 0 ∗ semVal (thr d L, .dma cc0_scoped1.sem) 0
          ∗ semVal (thr d L, .dma cc0_scoped2.sem) 0 ∗ semVal (thr d L, .dma cc0_scoped3.sem) 0)
        ∗ semsRest d L) := by
  unfold SparseCore.Cfg.ownSems0 semsRest
  rw [SparseCore.bigSep_sdiff_split' (semsV_own d L),
    SparseCore.bigSep_image_of_injOn (fun _ _ _ _ e => (Prod.mk.inj e).2)]
  unfold semsV
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A family over the kernel's buffers, buffer by buffer. -/
theorem bufsV_split (Φ : Ref sig .scVector → sProp 𝕄) :
    bigSep bufsV Φ = iprop(Φ cc0_scratch0 ∗ Φ cc0_scratch1 ∗ Φ cc0_scratch2 ∗ Φ cc0_scratch3 ∗ Φ cc0_scratch4 ∗ Φ cc0_scratch5 ∗ Φ cc0_scratch6) := by
  unfold bufsV
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- A subcore's buffers are the kernel's seven, at some contents, and the rest. -/
theorem ownBufs_eq :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f) ∗ (∃ f, (thr d L).loc cc0_scratch5 ↦{fullShare} f)
          ∗ ∃ f, (thr d L).loc cc0_scratch6 ↦{fullShare} f)
        ∗ bufsRest d L) := by
  unfold SparseCore.Cfg.ownBufs bufsRest
  refine (SparseCore.bigSep_sdiff_split' (bufsV_own L)).trans ?_
  rw [SparseCore.bigSep_image_of_injOn (fun _ _ _ _ e => Proc.devRef_injective _ e)]
  exact congrArg (fun X => iprop(X ∗ _)) (bufsV_split _)

end Cert.Proof

end
-- ==== Proof.Tile.lean ====
/-
  A vector subcore's whole part of the call: its bounds and rows fetched, its sums, and the two rows it writes out.
-/
module

public import proofs.«01_k».proof.Proof.Chunk
public import proofs.«01_k».proof.Proof.Own

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the call leaves -/

/-- The lower bounds and the upper bounds in the table. -/
def tabLo (ft : S64.Idx → F .f32) : Vec F S32 .f32 := fun x => ft fun | 0 => ⟨(x 0).val, by have : (x 0).val < 32 := (x 0).isLt; show (x 0).val < 64; omega⟩
def tabHi (ft : S64.Idx → F .f32) : Vec F S32 .f32 := fun x => ft fun | 0 => ⟨32 + (x 0).val, by have : (x 0).val < 32 := (x 0).isLt; show 32 + (x 0).val < 64; omega⟩

/-- No sum yet. -/
def zeroAcc : Acc F := (k0_pay83, k0_pay83, k0_pay83, k0_pay83)

/-- The sums of the worker whose 256 rows start at row `256 w`: by lane and by half of a trip, penalties and counts. -/
def workAcc (ft : S64.Idx → F .f32) (fe : S16x1x512x512.Idx → F .f32) (fs : S16x512x512.Idx → BitVec 32) (w : ℕ) : Acc F :=
  tileAcc (tabLo ft) (tabHi ft) (pixE fe) (pixS fs) (256 * w) 32 zeroAcc

/-- The worker's penalties, and its counts, by lane. -/
def workPen (ft : S64.Idx → F .f32) (fe : S16x1x512x512.Idx → F .f32) (fs : S16x512x512.Idx → BitVec 32) (w : ℕ) : FVec F S16 .f32 :=
  addf (workAcc ft fe fs w).1 (workAcc ft fe fs w).2.2.1
def workCnt (ft : S64.Idx → F .f32) (fe : S16x1x512x512.Idx → F .f32) (fs : S16x512x512.Idx → BitVec 32) (w : ℕ) : FVec F S16 .f32 :=
  addf (workAcc ft fe fs w).2.1 (workAcc ft fe fs w).2.2.2

/-- A lane of sixteen. -/
def lane16 (n : ℕ) : S16.Idx := fun | 0 => ⟨n % 16, Nat.mod_lt _ (by decide)⟩

/-- The array the call leaves: 32 rows of sixteen penalties, then 32 rows of sixteen counts. -/
def partials (ft : S64.Idx → F .f32) (fe : S16x1x512x512.Idx → F .f32) (fs : S16x512x512.Idx → BitVec 32) : S1024.Idx → F .f32 := fun j =>
  if (j 0).val < 512 then workPen ft fe fs ((j 0).val / 16) (lane16 (j 0).val) else workCnt ft fe fs (((j 0).val - 512) / 16) (lane16 (j 0).val)

/-- The two rows of the array that the subcore at `L` writes. -/
abbrev oPen (L : grid0.Coords) : Memref sig .scVector .hbm S16 .f32 := oV.slice (Rect.unit (s := S1024) (k0_off35 L) S16.size (k0_off35_inb L)) (fun _ => rfl)
abbrev oCnt (L : grid0.Coords) : Memref sig .scVector .hbm S16 .f32 := oV.slice (Rect.unit (s := S1024) (k0_off36 L) S16.size (k0_off36_inb L)) (fun _ => rfl)
/-- The two halves of the table. -/
abbrev tLo : Memref sig .scVector .hbm S32 .f32 := tV.slice (Rect.unit (s := S64) ![0] S32.size inb_S64_S32_0) (fun _ => rfl)
abbrev tHi : Memref sig .scVector .hbm S32 .f32 := tV.slice (Rect.unit (s := S64) ![32] S32.size inb_S64_S32_32) (fun _ => rfl)

theorem read_tLo (ft : S64.Idx → F .f32) : tLo.view.read (Elt F) ft = tabLo ft := by
  funext x
  refine congrArg ft (funext fun (a : Fin 1) => Fin.ext ?_)
  obtain rfl : a = 0 := Subsingleton.elim _ _
  show 0 + 1 * (x 0).val = (x 0).val
  omega

theorem read_tHi (ft : S64.Idx → F .f32) : tHi.view.read (Elt F) ft = tabHi ft := by
  funext x
  refine congrArg ft (funext fun (a : Fin 1) => Fin.ext ?_)
  obtain rfl : a = 0 := Subsingleton.elim _ _
  show 32 + 1 * (x 0).val = 32 + (x 0).val
  omega

/-- The worker at grid point `L`. -/
abbrev wid (L : grid0.Coords) : ℕ := 2 * (L 1).val + (L 0).val

theorem base_eq (L : grid0.Coords) : base L = 256 * wid L := by simp only [base, wid]; omega

theorem wid_lt (L : grid0.Coords) : wid L < 32 := by
  have h0 : (L 0).val < 2 := (L 0).isLt
  have h1 : (L 1).val < 16 := (L 1).isLt
  simp only [wid]; omega

/-- Row `w` of the penalties in the array the call leaves. -/
theorem read_oPen (ft : S64.Idx → F .f32) (fe : S16x1x512x512.Idx → F .f32) (fs : S16x512x512.Idx → BitVec 32) (L : grid0.Coords) :
    (oPen L).view.read (Elt F) (partials ft fe fs) = workPen ft fe fs (wid L) := by
  funext x
  have hx : (x 0).val < 16 := (x 0).isLt
  have hL := wid_lt L
  show partials ft fe fs ((Rect.unit (s := S1024) (k0_off35 L) S16.size (k0_off35_inb L)).toLoadRect.idx x) = _
  have h0 : (((Rect.unit (s := S1024) (k0_off35 L) S16.size (k0_off35_inb L)).toLoadRect.idx x) 0).val = 16 * wid L + (x 0).val := by
    show k0_off35 L 0 + 1 * (x 0).val = _
    rw [k0_off35_eq]
    show 32 * (L 1).val + 16 * (L 0).val + 1 * (x 0).val = _
    simp only [wid]; omega
  unfold partials
  rw [h0, if_pos (by omega), show (16 * wid L + (x 0).val) / 16 = wid L by omega]
  refine congrArg _ (funext fun a => Fin.ext ?_)
  obtain rfl : a = 0 := Subsingleton.elim _ _
  show (16 * wid L + (x 0).val) % 16 = (x 0).val
  omega

/-- Row `w` of the counts likewise. -/
theorem read_oCnt (ft : S64.Idx → F .f32) (fe : S16x1x512x512.Idx → F .f32) (fs : S16x512x512.Idx → BitVec 32) (L : grid0.Coords) :
    (oCnt L).view.read (Elt F) (partials ft fe fs) = workCnt ft fe fs (wid L) := by
  funext x
  have hx : (x 0).val < 16 := (x 0).isLt
  have hL := wid_lt L
  show partials ft fe fs ((Rect.unit (s := S1024) (k0_off36 L) S16.size (k0_off36_inb L)).toLoadRect.idx x) = _
  have h0 : (((Rect.unit (s := S1024) (k0_off36 L) S16.size (k0_off36_inb L)).toLoadRect.idx x) 0).val = 512 + 16 * wid L + (x 0).val := by
    show k0_off36 L 0 + 1 * (x 0).val = _
    rw [k0_off36_eq]
    show 32 * (L 1).val + 16 * (L 0).val + 512 + 1 * (x 0).val = _
    simp only [wid]; omega
  unfold partials
  rw [h0, if_neg (by omega), show (512 + 16 * wid L + (x 0).val - 512) / 16 = wid L by omega]
  refine congrArg _ (funext fun a => Fin.ext ?_)
  obtain rfl : a = 0 := Subsingleton.elim _ _
  show (512 + 16 * wid L + (x 0).val) % 16 = (x 0).val
  omega

/-! ## Writing a row out -/

/-- All sixteen lanes of the row to write out from. -/
abbrev rOut : Rect S16 := Rect.unit (s := S16) ![0] S16.size inb_S16_S16_0

/-- The row after a store of `w` reads `w`. -/
theorem read_stored (f : S16.Idx → F .f32) (w : S16.Idx → F .f32) :
    outM.view.read (Elt F) ((outM.access rOut).write (Elt F) f w Finset.univ) = w := by
  have h := View.read_write_univ (v := outM.access rOut) (Val := Elt F) f w
  funext x
  have hx : rOut.toLoadRect.idx x = x := by
    refine funext fun a => Fin.ext ?_
    obtain rfl : a = 0 := Subsingleton.elim _ _
    show 0 + 1 * (x 0).val = (x 0).val
    omega
  have := congrFun h x
  rw [View.read_apply] at this
  rw [← this]
  show (outM.access rOut).write (Elt F) f w Finset.univ x = (outM.access rOut).write (Elt F) f w Finset.univ (rOut.toLoadRect.idx x)
  rw [hx]

/-- A row stored and copied out: the piece behind `dst` then holds what `OUT` holds there, when `OUT` reads the row there. -/
theorem wp_put (d : Dev nD) (L : grid0.Coords) (dst : Memref sig .scVector .hbm S16 .f32) {sem : DmaSem sig} (w : S16.Idx → F .f32)
    {hl : outM.view.LoadsAt rOut.toLoadRect} {hx hm} {hsrc : outM.view.WordExact} {hdst : dst.view.WordExact}
    {hsem : DmaTarget.Typed (nD := nD) Space.vmem (SemLoc.dma sem : SemLoc sig) (DmaTarget.here (τ := τ) (p := .scVector (cV L) (jV L)) dst)}
    {hsrc' : outM.view.WordExact} {hdst' : dst.view.WordExact} (hc : 0 < dst.view.dmaCredit)
    {fd OUT : Buf (Elt F) (dst.view.loc (thr d L))} (hOUT : dst.view.read (Elt F) OUT = w) {O : CellTallies nD τ sig (HIx 1)} {W : Waits sig (HIx 1)}
    {α : Type} {k : PUnit → Prog (TpuEff nD τ sig (Elt F) Λ₀ (.scVector (cV L) (jV L))) α} {Q : α → sProp 𝕄} :
    iprop((∃ f, outM.view.loc (thr d L) ↦{fullShare} f) ∗ (dst.view.loc (thr d L) ↦[dst.view.set]{fullShare} fd) ∗ semVal (thr d L, SemLoc.dma sem) 0
        ∗ Ow d L O W ∗ MayWaits (thr d L) none O)
      ⊢ iprop((((∃ f, outM.view.loc (thr d L) ↦{fullShare} f) ∗ (dst.view.loc (thr d L) ↦[dst.view.set]{fullShare} OUT) ∗ semVal (thr d L, SemLoc.dma sem) 0
            ∗ Ow d L O W)
          -∗ wp frame (wpE (defs₀ (F := F)) 𝒱₀ (thr d L) none) Set.univ (k ⟨⟩) Q)
        -∗ wp frame (wpE (defs₀ (F := F)) 𝒱₀ (thr d L) none) Set.univ
            (.op (.load outM rOut.toLoadRect hl) fun _ => .op (.store outM rOut w Finset.univ hx hm) fun _ =>
              .op (.enqueueDma outM (.here dst) (.dma sem) hsrc hdst hsem) fun _ => .op (.waitDma2 sem outM dst hsrc' hdst') k) Q) := by
  unfold Ow
  iintro ⟨⟨%f, Hf⟩, Hd, Hc, ⟨%W', %hW, HO⟩, HM⟩; iintro Hk
  iapply (wp_load 𝒱₀ (thr d L) none Set.univ (m := outM) (S := Finset.univ) (Finset.subset_univ _)) $$ Hf; iintro Hf
  ihave Hf : iprop((outM.access rOut).loc (thr d L) ↦{fullShare} (show Buf (Elt F) ((outM.access rOut).loc (thr d L)) from f)) $$ [Hf]
  · iexact Hf
  iapply (wp_store 𝒱₀ (thr d L) none Set.univ (m := outM) (r := rOut) (Mk := Finset.univ) (S := Finset.univ) (Finset.subset_univ _)) $$ Hf; iintro Hf
  ihave Hf : iprop(outM.view.loc (thr d L) ↦{fullShare} (show Buf (Elt F) (outM.view.loc (thr d L)) from (outM.access rOut).write (Elt F) f w Finset.univ)) $$ [Hf]
  · iexact Hf
  ihave ⟨Hs, Hrest⟩ := (pointsTo_split_subset (Finset.subset_univ outM.view.set)).1 $$ Hf
  iapply (wp_dmaLocal EC 𝒱₀ (thr d L) none (src := outM) (dst := dst) none dst.view.dmaCredit rfl hc (Finset.Subset.refl _)) $$ [Hs Hd Hc]
  · isplitl [Hs]; · iexact Hs
    isplitl [Hd]; · iexact Hd
    iexact Hc
  iintro Hfl
  iapply (wp_waitLocalO EC 𝒱₀ (thr d L) none (dstw := dst) none rfl) $$ [Hfl HO HM]
  · isplitl [Hfl]; · iexact Hfl
    isplitl [HO]; · iexact HO
    iapply (MayWaits.elim (SemLoc.dma sem)) $$ HM
  iintro ⟨⟨Hd, Hs⟩, Hc, HO⟩
  iapply Hk
  isplitl [Hs Hrest]
  · iexists _
    iapply (pointsTo_split_subset (Finset.subset_univ outM.view.set)).2 $$ [Hs Hrest]
    isplitl [Hs]; · iexact Hs
    iexact Hrest
  isplitl [Hd]
  · iapply (Entails.of_eq (pointsTo_congr ?_)) $$ Hd
    intro i hi
    obtain ⟨x, -, rfl⟩ := Finset.mem_map.mp hi
    rw [read_stored, View.write_emb_of_mem _ _ (Finset.mem_univ x), ← hOUT]
    show _root_.cast _ (dst.view.read (Elt F) OUT x) = _
    rw [View.read_apply]
    simp
  isplitl [Hc]; · iexact Hc
  iexists _
  isplitr
  rotate_left
  · iexact HO
  · ipureintro
    intro p hp
    rcases Finset.mem_insert.mp hp with h | h
    · exact .inr (by rw [h])
    · exact hW p h

/-! ## The whole part -/

/-- What the subcore at `L` is handed: shares of the maps and of the table, and its two rows of the array. -/
abbrev Given (d : Dev nD) (L : grid0.Coords) (q : PosShare TreeShare) (ft : Buf (Elt F) (tLoc d)) (fe : Buf (Elt F) (eLoc d)) (fs : Buf (Elt F) (sLoc d))
    (fo : Buf (Elt F) (oLoc d)) : sProp 𝕄 :=
  iprop((eLoc d ↦{q} fe) ∗ (sLoc d ↦{q} fs) ∗ (tLoc d ↦{q} ft)
    ∗ (oLoc d ↦[(oPen L).view.set]{fullShare} fo) ∗ (oLoc d ↦[(oCnt L).view.set]{fullShare} fo))

theorem wp_body (hF : (K (F := F)).Facts) (d : Dev nD) (L : grid0.Coords) (q : PosShare TreeShare) (ft : Buf (Elt F) (tLoc d)) (fe : Buf (Elt F) (eLoc d))
    (fs : Buf (Elt F) (sLoc d)) (fo : Buf (Elt F) (oLoc d)) (hlt : ∀ R C, (pixS fs R C).toNat < 32)
    (O : CellTallies nD τ sig (HIx 1)) (W : Waits sig (HIx 1)) (hO : ∀ g, O g none = 0) :
    iprop(levAts (K (F := F)).L (K (F := F)).lev ∗ emp ∗ Given d L q ft fe fs fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L eV (Memref.isWhole_whole _) sV (Memref.isWhole_whole _) tV (Memref.isWhole_whole _) oV (Memref.isWhole_whole _) loM (Memref.isWhole_whole _) hiM (Memref.isWhole_whole _) e0M (Memref.isWhole_whole _) e1M (Memref.isWhole_whole _) s0M (Memref.isWhole_whole _) s1M (Memref.isWhole_whole _) outM (Memref.isWhole_whole _) cc0_scratch7 cc0_scratch8 cc0_scratch9 cc0_scratch10 cc0_scoped0 cc0_scoped1 cc0_scoped2 cc0_scoped3)
          fun _ => iprop(Given d L q ft fe fs (partials ft fe fs) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_body_eq_skeleton]; unfold cc0__sc_body_skel
  rw [k0_part19_eq_skeleton]; unfold k0_part19_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_eq d L, ownBufs_eq d L]
  iintro ⟨#Hlv, -, ⟨HE, HS, HT, Hp, Hc⟩, ⟨⟨⟨%g0, Hlo⟩, ⟨%g1, Hhi⟩, ⟨%g2, He0⟩, He1, ⟨%g4, Hs0⟩, Hs1, Hout⟩, HbR⟩,
    ⟨⟨Ce0, Ce1, Cs0, Cs1, C0, C1, C2, C3⟩, HsR⟩, HO⟩
  ihave #HM := ((K (F := F)).mayWaits_none (thr := thr d L) hO) $$ Hlv
  ihave HO : (Ow d L O W) $$ [HO]
  · unfold Ow
    iexists W
    isplitr
    · ipureintro; exact fun p hp => .inl hp
    · iexact HO
  -- the bounds
  iapply (wp_fire d L tLo loM (by decide) (q := q) (fs := ft) (read_tLo ft)) $$ [HT Hlo C0]
  · isplitl [HT]; · iexact HT
    isplitl [Hlo]; · iexact Hlo
    iexact C0
  iintro Fl
  iapply (wp_arrive d L _ loM) $$ [Fl HO]
  · isplitl [Fl]; · iexact Fl
    isplitl [HO]; · iexact HO
    iexact HM
  iintro ⟨⟨%lo, %hlo, Hlo⟩, HT, C0, HO⟩
  iapply (wp_fire d L tHi hiM (by decide) (q := q) (fs := ft) (read_tHi ft)) $$ [HT Hhi C1]
  · isplitl [HT]; · iexact HT
    isplitl [Hhi]; · iexact Hhi
    iexact C1
  iintro Fl
  iapply (wp_arrive d L _ hiM) $$ [Fl HO]
  · isplitl [Fl]; · iexact Fl
    isplitl [HO]; · iexact HO
    iexact HM
  iintro ⟨⟨%hi, %hhi, Hhi⟩, HT, C1, HO⟩
  have hlo' : lo = tabLo ft := hlo
  have hhi' : hi = tabHi ft := hhi
  subst hlo'; subst hhi'
  -- the first chunk on its way, from one half of the shares
  ihave ⟨HE0, HE1⟩ := (pointsTo_share (PosShare.mem_left_op_right _)).1 $$ HE
  ihave ⟨HS0, HS1⟩ := (pointsTo_share (PosShare.mem_left_op_right _)).1 $$ HS
  iapply (wp_fire d L (eRows _ (k0_off1_inb L)) e0M (by decide) (q := q.left) (fs := fe) (read_eRows fe _ (k0_off1_eq L))) $$ [HE0 He0 Ce0]
  · isplitl [HE0]; · iexact HE0
    isplitl [He0]; · iexact He0
    iexact Ce0
  iintro Fe0
  iapply (wp_fire d L (sRows _ (k0_off1_inb L)) s0M (by decide) (q := q.left) (fs := fs) (read_sRows fs _ (k0_off1_eq L))) $$ [HS0 Hs0 Cs0]
  · isplitl [HS0]; · iexact HS0
    isplitl [Hs0]; · iexact Hs0
    iexact Cs0
  iintro Fs0
  -- the loop
  iapply (Scf.wp_for_bind frame (wpE (defs₀ (F := F)) 𝒱₀ (thr d L) none) Set.univ k0_t1_loop.lb k0_t1_loop.ub k0_t1_loop.st k0_t1_ok zeroAcc _
    (Outer d L O W q.left q.right (tabLo ft) (tabHi ft) fe fs zeroAcc) ?hb) $$ [Hlo Hhi Fe0 Fs0 He1 Hs1 HE1 HS1 Ce1 Cs1 HO]
  case hb =>
    intro t b
    exact wp_outer d L O W q.left q.right (tabLo ft) (tabHi ft) fe fs hlt zeroAcc _ t b
  · unfold Outer
    isplitr; · iexact HM
    isplitr; · ipureintro; rfl
    isplitl [Hlo Hhi]
    · isplitl [Hlo]; · iexact Hlo
      iexact Hhi
    isplitl [Fe0]; · iexact Fe0
    isplitl [Fs0]; · iexact Fs0
    isplitl [He1]; · iexact He1
    isplitl [Hs1]; · iexact Hs1
    isplitl [HE1]; · iexact HE1
    isplitl [HS1]; · iexact HS1
    isplitl [Ce1]; · iexact Ce1
    isplitl [Cs1]; · iexact Cs1
    iexact HO
  iintro %b H
  unfold Outer
  icases H with ⟨-, %hb, ⟨Hlo, Hhi⟩, Fe0, Fs0, He1, Hs1, HE1, HS1, Ce1, Cs1, HO⟩
  have hw : b = workAcc ft fe fs (wid L) := by
    rw [hb]; unfold workAcc; rw [← base_eq]; rfl
  obtain ⟨b0, b1, b2, b3⟩ := b
  have hpen : k0_pay1 b0 b2 = workPen ft fe fs (wid L) := by unfold workPen; rw [← hw]; rfl
  have hcnt : k0_pay2 b1 b3 = workCnt ft fe fs (wid L) := by unfold workCnt; rw [← hw]; rfl
  -- the last copies back
  iapply (wp_arrive d L _ e0M) $$ [Fe0 HO]
  · isplitl [Fe0]; · iexact Fe0
    isplitl [HO]; · iexact HO
    iexact HM
  iintro ⟨⟨%g0, -, He0⟩, HE0, Ce0, HO⟩
  iapply (wp_arrive d L _ s0M) $$ [Fs0 HO]
  · isplitl [Fs0]; · iexact Fs0
    isplitl [HO]; · iexact HO
    iexact HM
  iintro ⟨⟨%k0, -, Hs0⟩, HS0, Cs0, HO⟩
  -- the two rows out
  iapply (wp_put d L (oPen L) (k0_pay1 b0 b2) (by show 0 < outM.view.dmaCredit; decide) (fd := fo) (OUT := partials ft fe fs) ((read_oPen ft fe fs L).trans hpen.symm)) $$ [Hout Hp C2 HO]
  · isplitl [Hout]; · iexact Hout
    isplitl [Hp]; · iexact Hp
    isplitl [C2]; · iexact C2
    isplitl [HO]; · iexact HO
    iexact HM
  iintro ⟨Hout, Hp, C2, HO⟩
  iapply (wp_put d L (oCnt L) (k0_pay2 b1 b3) (by show 0 < outM.view.dmaCredit; decide) (fd := fo) (OUT := partials ft fe fs) ((read_oCnt ft fe fs L).trans hcnt.symm)) $$ [Hout Hc C3 HO]
  · isplitl [Hout]; · iexact Hout
    isplitl [Hc]; · iexact Hc
    isplitl [C3]; · iexact C3
    isplitl [HO]; · iexact HO
    iexact HM
  iintro ⟨Hout, Hc, C3, HO⟩
  rw [wp_ret]; imodintro
  isplitl [HE0 HE1 HS0 HS1 HT Hp Hc]
  · isplitl [HE0 HE1]
    · iapply (pointsTo_share (PosShare.mem_left_op_right _)).2 $$ [HE0 HE1]
      isplitl [HE0]; · iexact HE0
      iexact HE1
    isplitl [HS0 HS1]
    · iapply (pointsTo_share (PosShare.mem_left_op_right _)).2 $$ [HS0 HS1]
      isplitl [HS0]; · iexact HS0
      iexact HS1
    isplitl [HT]; · iexact HT
    isplitl [Hp]; · iexact Hp
    iexact Hc
  isplitl [Hlo Hhi He0 He1 Hs0 Hs1 Hout HbR]
  · isplitr [HbR]
    rotate_left
    · iexact HbR
    isplitl [Hlo]; · iexists _; iexact Hlo
    isplitl [Hhi]; · iexists _; iexact Hhi
    isplitl [He0]; · iexists _; iexact He0
    isplitl [He1]; · iexact He1
    isplitl [Hs0]; · iexists _; iexact Hs0
    isplitl [Hs1]; · iexact Hs1
    iexact Hout
  isplitl [Ce0 Ce1 Cs0 Cs1 C0 C1 C2 C3 HsR]
  · isplitr [HsR]
    rotate_left
    · iexact HsR
    isplitl [Ce0]; · iexact Ce0
    isplitl [Ce1]; · iexact Ce1
    isplitl [Cs0]; · iexact Cs0
    isplitl [Cs1]; · iexact Cs1
    isplitl [C0]; · iexact C0
    isplitl [C1]; · iexact C1
    isplitl [C2]; · iexact C2
    iexact C3
  unfold Ow
  iexact HO

end Cert.Proof

end
-- ==== Proof.Launch.lean ====
/-
  The launch: the four arrays dealt over the 32 vector subcores and gathered again, the host's lines around the call,
  and the run of the whole program.
-/
module

public import proofs.«01_k».proof.Proof.Host
public import proofs.«01_k».proof.Proof.Tile

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.ShloMosaic.Transfers
open Idealize.ShloMosaic.StableHlo (held seq after tcRefs launchContents)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' contents, line by line -/

/-- The emissivity map, the class map, the table, the partial sums and the result, among the device's arrays. -/
abbrev eRef : DevRef τ sig := Proc.devRef .tc main_arg0
abbrev sRef : DevRef τ sig := Proc.devRef .tc main_arg1
abbrev tRef : DevRef τ sig := Proc.devRef .tc main_v14
abbrev oRef : DevRef τ sig := Proc.devRef .tc main_v15
abbrev rRef : DevRef τ sig := Proc.devRef .tc main_v23

/-- Before the call: the table computed. -/
def V1 (d : Dev nD) : Valuation τ sig (Elt F) := after preOps (launchContents m d)
/-- What the call leaves. -/
def sums (d : Dev nD) : Buf (Elt F) (oLoc d) := partials (V1 m d tRef) (V1 m d eRef) (V1 m d sRef)
/-- After the call: the partial sums in place. -/
def V2 (d : Dev nD) : Valuation τ sig (Elt F) := Function.update (V1 m d) oRef (sums m d)
/-- At the end: their mean computed. -/
def V3 (d : Dev nD) : Valuation τ sig (Elt F) := after postOps (V2 m d)

theorem V2_other (d : Dev nD) {b : DevRef τ sig} (h : b ≠ oRef) : V2 m d b = V1 m d b := Function.update_of_ne h _ _
theorem V2_o (d : Dev nD) : V2 m d oRef = sums m d := Function.update_self _ _ _

/-- No line before the call writes the inputs, -/
theorem V1_e (d : Dev nD) : V1 m d eRef = m (eLoc d) := by
  unfold V1 preOps; after_results_simp
theorem V1_s (d : Dev nD) : V1 m d sRef = m (sLoc d) := by
  unfold V1 preOps; after_results_simp
/-- nor any after it. -/
theorem V3_e (d : Dev nD) : V3 m d eRef = m (eLoc d) := by
  have h : V3 m d eRef = V2 m d eRef := by unfold V3 postOps; after_results_simp
  rw [h, V2_other m d (by decide), V1_e]
theorem V3_s (d : Dev nD) : V3 m d sRef = m (sLoc d) := by
  have h : V3 m d sRef = V2 m d sRef := by unfold V3 postOps; after_results_simp
  rw [h, V2_other m d (by decide), V1_s]

/-! ## The arrays dealt over the vector subcores -/

/-- The grid point of subcore `i` of SparseCore `c`. -/
def gridAt (c : Fin (grid0.bound 0)) (i : Fin (grid0.bound 1)) : grid0.Coords := fun
  | 0 => c
  | 1 => i
  | ⟨_ + 2, h⟩ => absurd h (Nat.not_lt.2 (Nat.le_add_left _ _))

/-- Its share of what every subcore reads. -/
def shareAt (c : Fin 2) (i : Fin 16) : PosShare TreeShare := dealOf (dealOf fullShare Finset.univ c) Finset.univ i

theorem mem_oPen (L : grid0.Coords) (j : S1024.Idx) : j ∈ (oPen L).view.set ↔ 16 * wid L ≤ (j 0).val ∧ (j 0).val < 16 * wid L + 16 := by
  show j ∈ ((View.whole main_v15_scv).slice (Rect.unit (s := S1024) (k0_off35 L) S16.size (k0_off35_inb L))).set ↔ _
  rw [View.set_slice_whole]
  refine Rect.mem_set_unit.trans ?_
  rw [k0_off35_eq]
  refine (Fin.forall_fin_one (p := _)).trans ?_
  show 32 * (L 1).val + 16 * (L 0).val ≤ (j 0).val ∧ (j 0).val < 32 * (L 1).val + 16 * (L 0).val + 16 ↔ _
  simp only [wid]; omega

theorem mem_oCnt (L : grid0.Coords) (j : S1024.Idx) : j ∈ (oCnt L).view.set ↔ 512 + 16 * wid L ≤ (j 0).val ∧ (j 0).val < 512 + 16 * wid L + 16 := by
  show j ∈ ((View.whole main_v15_scv).slice (Rect.unit (s := S1024) (k0_off36 L) S16.size (k0_off36_inb L))).set ↔ _
  rw [View.set_slice_whole]
  refine Rect.mem_set_unit.trans ?_
  rw [k0_off36_eq]
  refine (Fin.forall_fin_one (p := _)).trans ?_
  show 32 * (L 1).val + 16 * (L 0).val + 512 ≤ (j 0).val ∧ (j 0).val < 32 * (L 1).val + 16 * (L 0).val + 512 + 16 ↔ _
  simp only [wid]; omega

/-- The positions one subcore writes, and those one SparseCore does. -/
def cells (d : Dev nD) (c : Fin 2) (i : Fin 16) : Finset (Idx (oLoc d)) := (oPen (gridAt c i)).view.set ∪ (oCnt (gridAt c i)).view.set
def coreCells (d : Dev nD) (c : Fin 2) : Finset (Idx (oLoc d)) := Finset.univ.biUnion (cells d c)

theorem mem_cells (d : Dev nD) (c : Fin 2) (i : Fin 16) (j : S1024.Idx) :
    j ∈ cells d c i ↔ (j 0).val % 512 / 16 = 2 * i.val + c.val := by
  have hj : (j 0).val < 1024 := (j 0).isLt
  have hL : wid (gridAt c i) = 2 * i.val + c.val := rfl
  refine Finset.mem_union.trans ?_
  rw [mem_oPen, mem_oCnt, hL]
  omega

theorem cells_disjoint (d : Dev nD) {c c' : Fin 2} {i i' : Fin 16} (h : c ≠ c' ∨ i ≠ i') : Disjoint (cells d c i) (cells d c' i') := by
  refine Finset.disjoint_left.mpr fun j h1 h2 => ?_
  have e1 := (mem_cells d c i j).1 h1
  have e2 := (mem_cells d c' i' j).1 h2
  have hc := c.isLt; have hc' := c'.isLt
  rcases h with h | h
  · exact h (Fin.ext (by omega))
  · exact h (Fin.ext (by omega))

theorem coreCells_disjoint (d : Dev nD) {c c' : Fin 2} (h : c ≠ c') : Disjoint (coreCells d c) (coreCells d c') := by
  unfold coreCells
  exact (Finset.disjoint_biUnion_left _ _ _).mpr fun i _ => (Finset.disjoint_biUnion_right _ _ _).mpr fun i' _ => cells_disjoint d (.inl h)

/-- Together the subcores write every position. -/
theorem coreCells_cover (d : Dev nD) : (Finset.univ : Finset (Idx (oLoc d))) = Finset.univ.biUnion (coreCells d) := by
  symm; rw [Finset.eq_univ_iff_forall]
  intro (j : S1024.Idx)
  have hj : (j 0).val < 1024 := (j 0).isLt
  refine Finset.mem_biUnion.mpr ⟨⟨(j 0).val / 16 % 2, by omega⟩, Finset.mem_univ _, ?_⟩
  refine Finset.mem_biUnion.mpr ⟨⟨(j 0).val % 512 / 32, by omega⟩, Finset.mem_univ _, (mem_cells d _ _ j).2 ?_⟩
  show (j 0).val % 512 / 16 = 2 * ((j 0).val % 512 / 32) + (j 0).val / 16 % 2
  omega

/-- An array that all read, dealt over them; -/
theorem deal_read {ℓ : Loc nD τ sig} (f : Buf (Elt F) ℓ) :
    (ℓ ↦{fullShare} f : sProp 𝕄) = bigSep Finset.univ fun c : Fin 2 => bigSep Finset.univ fun i : Fin 16 => ℓ ↦{shareAt c i} f := by
  rw [pointsTo_deal (ι := Fin 2) Finset.univ Finset.univ_nonempty fullShare]
  exact bigSep_congr fun c _ => pointsTo_deal (ι := Fin 16) Finset.univ Finset.univ_nonempty _

/-- the array they write, cut into their rows. -/
theorem deal_write (d : Dev nD) (f : Buf (Elt F) (oLoc d)) :
    (oLoc d ↦{fullShare} f : sProp 𝕄) = bigSep Finset.univ fun c : Fin 2 => bigSep Finset.univ fun i : Fin 16 =>
      iprop((oLoc d ↦[(oPen (gridAt c i)).view.set]{fullShare} f) ∗ (oLoc d ↦[(oCnt (gridAt c i)).view.set]{fullShare} f)) := by
  rw [coreCells_cover d, pointsTo_biUnion _ _ fun c _ c' _ h => coreCells_disjoint d h]
  refine bigSep_congr fun c _ => ?_
  unfold coreCells
  rw [pointsTo_biUnion _ _ fun i _ i' _ h => cells_disjoint d (.inr h)]
  refine bigSep_congr fun i _ => ?_
  unfold cells
  have hd : Disjoint (oPen (gridAt c i)).view.set (oCnt (gridAt c i)).view.set := Finset.disjoint_left.mpr fun j h1 h2 => by
    have hL := wid_lt (gridAt c i)
    have e1 := (mem_oPen _ j).1 h1
    have e2 := (mem_oCnt _ j).1 h2
    omega
  have h : (oLoc d ↦[(oPen (gridAt c i)).view.set ∪ (oCnt (gridAt c i)).view.set]{fullShare} f : sProp 𝕄) ⊣⊢ _ := pointsTo_union hd
  exact equiv_iff.1 ⟨h.1, h.2⟩

/-- What a subcore is handed, and gives back with `fo` the partial sums. -/
def task (d : Dev nD) (c : Fin 2) (i : Fin 16) (fo : Buf (Elt F) (oLoc d)) : sProp 𝕄 :=
  Given d (gridAt c i) (shareAt c i) (V1 m d tRef) (V1 m d eRef) (V1 m d sRef) fo

/-- The four arrays, dealt. -/
theorem deal (d : Dev nD) (fo : Buf (Elt F) (oLoc d)) :
    (iprop((eLoc d ↦{fullShare} V1 m d eRef) ∗ (sLoc d ↦{fullShare} V1 m d sRef) ∗ (tLoc d ↦{fullShare} V1 m d tRef) ∗ (oLoc d ↦{fullShare} fo)) : sProp 𝕄)
      = bigSep Finset.univ fun c : Fin 2 => bigSep Finset.univ fun i : Fin 16 => task m d c i fo := by
  unfold task Given
  rw [deal_read (ℓ := eLoc d), deal_read (ℓ := sLoc d), deal_read (ℓ := tLoc d), deal_write, ← bigSep_sep', ← bigSep_sep', ← bigSep_sep']
  refine bigSep_congr fun c _ => ?_
  rw [← bigSep_sep', ← bigSep_sep', ← bigSep_sep']

/-! ## The call's payloads -/

instance task_storable (d : Dev nD) (c : Fin 2) (i : Fin 16) (fo : Buf (Elt F) (oLoc d)) : BI.Storable (upEmb : UEmb _ 𝕄) (task m d c i fo) := by
  unfold task; infer_instance

/-- Each SparseCore is handed what its subcores are; a subcore gives its part back with its sums written. -/
def P : (K (F := F)).Pay (nD := nD) (Val := Elt F) (Name := ℕ) (U := UU) where
  st := fun q d c => match q with | 0 => bigSep Finset.univ fun i : Fin 16 => task m d (Fin.cast nCore_zero c) i (V1 m d oRef)
  dn := fun q d c => match q with | 0 => bigSep Finset.univ fun i : Fin 16 => task m d (Fin.cast nCore_zero c) i (sums m d)
  go := fun q d c i => match q with | 0 => task m d (Fin.cast nCore_zero c) (Fin.cast nSub_zero i) (V1 m d oRef)
  td := fun q d c i => match q with | 0 => task m d (Fin.cast nCore_zero c) (Fin.cast nSub_zero i) (sums m d)
  x := fun _ _ => iprop(emp)

instance P_storable : (P (F := F) m).IsStorable where
  st q d c := match q with
    | 0 => (inferInstance : BI.Storable (upEmb : UEmb _ 𝕄) (bigSep Finset.univ fun i : Fin 16 => task m d (Fin.cast nCore_zero c) i (V1 m d oRef)))
  dn q d c := match q with
    | 0 => (inferInstance : BI.Storable (upEmb : UEmb _ 𝕄) (bigSep Finset.univ fun i : Fin 16 => task m d (Fin.cast nCore_zero c) i (sums m d)))
  go q d c i := match q with
    | 0 => (inferInstance : BI.Storable (upEmb : UEmb _ 𝕄) (task m d (Fin.cast nCore_zero c) (Fin.cast nSub_zero i) (V1 m d oRef)))
  td q d c i := match q with
    | 0 => (inferInstance : BI.Storable (upEmb : UEmb _ 𝕄) (task m d (Fin.cast nCore_zero c) (Fin.cast nSub_zero i) (sums m d)))

/-! ## What the launch theorem asks -/

theorem defs₀_vector (c : Fin τ.nSC) (s : Fin τ.nSub) :
    defs₀ (F := F) (.scVector c s) 0 () = SparseCore.onTile hcore0 hsub0 (fun c s => cc0__sc_body (gridAt c s) eV (Memref.isWhole_whole _) sV (Memref.isWhole_whole _) tV (Memref.isWhole_whole _) oV (Memref.isWhole_whole _) loM (Memref.isWhole_whole _) hiM (Memref.isWhole_whole _) e0M (Memref.isWhole_whole _) e1M (Memref.isWhole_whole _) s0M (Memref.isWhole_whole _) s1M (Memref.isWhole_whole _) outM (Memref.isWhole_whole _) cc0_scratch7 cc0_scratch8 cc0_scratch9 cc0_scratch10 cc0_scoped0 cc0_scoped1 cc0_scoped2 cc0_scoped3) ⟨⟩ c s := rfl

/-- A subcore waits on its own copies alone. -/
theorem obl_post {A B C : sProp 𝕄} {W : Waits sig (HIx 1)} {O : CellTallies nD τ sig (HIx 1)} {t : Thread nD τ} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- Every class in the map is a row of the table. -/
def ClassOK : Prop := ∀ (d : Dev nD) (R C : ℕ), (pixS (m (sLoc d)) R C).toNat < 32

/-- Each subcore's part of the call. -/
theorem tileObl (hF : (K (F := F)).Facts) (hpre : ClassOK m) : (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (wp_body hF d (gridAt ⟨_, hc.1⟩ ⟨_, hc.2⟩) (shareAt (Fin.cast nCore_zero c) (Fin.cast nSub_zero i)) (V1 m d tRef) (V1 m d eRef) (V1 m d sRef) (V1 m d oRef)
    (by rw [V1_s]; exact hpre d) O W hO).trans (wp_mono frame _ _ fun _ => obl_post)

/-- A SparseCore's part is its subcores' parts, both ways. -/
theorem vecSplit : (K (F := F)).VecSplit' (P m) 0 := by
  intro d c
  show (bigSep Finset.univ fun i : Fin 16 => task m d (Fin.cast nCore_zero c) i (V1 m d oRef))
    ⊢ |={Set.univ}=> iprop((bigSep Finset.univ fun i : Fin 16 => task m d (Fin.cast nCore_zero c) i (V1 m d oRef))
      ∗ ((bigSep Finset.univ fun i : Fin 16 => task m d (Fin.cast nCore_zero c) i (sums m d))
        -∗ bigSep Finset.univ fun i : Fin 16 => task m d (Fin.cast nCore_zero c) i (sums m d)))
  iintro H
  imodintro
  isplitl [H]; · iexact H
  iintro H; iexact H

/-- The launch element: the handshakes' rounds. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host program -/

/-- The device's arrays at the launch. -/
theorem unscoped_held (d : Dev nD) :
    (unscopedBufs d (fun b => m ((SparseCore.T d).loc b)) : sProp 𝕄) = held (SparseCore.T d) (tcRefs τ sig) (launchContents m d) := by
  unfold unscopedBufs held tcRefs
  rw [show (Finset.univ.filter fun b : Ref sig .tc => ¬ b.isScoped) = Finset.univ from Finset.filter_true_of_mem (by decide), bigSep_map]
  rfl

/-- The four arrays of the call. -/
abbrev four : Finset (DevRef τ sig) := {eRef, sRef, tRef, oRef}

theorem four_sub : four ⊆ tcRefs τ sig := by
  intro b hb
  simp only [four, Finset.mem_insert, Finset.mem_singleton] at hb
  rcases hb with rfl | rfl | rfl | rfl <;> exact StableHlo.devRef_mem_tcRefs _

theorem held_four (d : Dev nD) (W : Valuation τ sig (Elt F)) :
    (held (SparseCore.T d) (tcRefs τ sig) W : sProp 𝕄)
      = iprop(((eLoc d ↦{fullShare} W eRef) ∗ (sLoc d ↦{fullShare} W sRef) ∗ (tLoc d ↦{fullShare} W tRef) ∗ (oLoc d ↦{fullShare} W oRef))
          ∗ held (SparseCore.T d) (tcRefs τ sig \ four) W) := by
  rw [StableHlo.held_sub_split _ four_sub W]
  congr 1
  unfold held four
  rw [SparseCore.bigSep_insert' (by decide), SparseCore.bigSep_insert' (by decide), SparseCore.bigSep_insert' (by decide), bigSep_singleton]

theorem held_rest (d : Dev nD) :
    (held (SparseCore.T d) (tcRefs τ sig \ four) (V2 m d) : sProp 𝕄) = held (SparseCore.T d) (tcRefs τ sig \ four) (V1 m d) :=
  StableHlo.held_congr _ fun b hb => V2_other m d fun e => (Finset.mem_sdiff.1 hb).2 (by rw [e]; decide)

theorem st0_eq (d : Dev nD) : (bigSep Finset.univ fun c : Fin ((K (F := F)).nCore 0) => (P m).st 0 d c)
    = bigSep Finset.univ fun c : Fin 2 => bigSep Finset.univ fun i : Fin 16 => task m d c i (V1 m d oRef) := rfl
theorem dn0_eq (d : Dev nD) : (bigSep Finset.univ fun c : Fin ((K (F := F)).nCore 0) => (P m).dn 0 d c)
    = bigSep Finset.univ fun c : Fin 2 => bigSep Finset.univ fun i : Fin 16 => task m d c i (sums m d) := rfl

/-- What the host holds at the end. -/
abbrev FIN (d : Dev nD) : sProp 𝕄 := held (SparseCore.T d) (tcRefs τ sig) (V3 m d)

/-- The host: the table computed, the call made from the four arrays and back, the mean computed. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (tcRefs τ sig) _ preOps preOps_bufs preOps_fresh (launchContents m d)) $$ [Hb Hheld]
  · isplitl [Hb]; · iexact Hb
    iexact Hheld
  iintro ⟨Hb, Hheld⟩
  ihave Hh := (Entails.of_eq (show (held d.tc (tcRefs τ sig) (after preOps (launchContents m d)) : sProp 𝕄) = _ from held_four d (V1 m d))) $$ Hheld
  icases Hh with ⟨H4, Hrest⟩
  rw [wp_bind]
  iapply ((K (F := F)).wp_run (D (F := F)) 𝒱 (EH := EH) (P := P m) κ d 0) $$ [Hst H4 Hb Hrest Hts]
  isplitr; · iexact Hctx
  isplitl [Hst]; · iexact Hst
  isplitl [H4]
  · rw [st0_eq, ← deal]; iexact H4
  iintro ⟨Hst, Hdn⟩
  ihave H4 := (Entails.of_eq ((dn0_eq m d).trans (deal m d (sums m d)).symm)) $$ Hdn
  ihave Hheld := (Entails.of_eq ((held_four d (V2 m d)).trans (by
    rw [held_rest, V2_other m d (b := eRef) (by decide), V2_other m d (b := sRef) (by decide), V2_other m d (b := tRef) (by decide), V2_o])).symm) $$ [H4 Hrest]
  · isplitl [H4]; · iexact H4
    iexact Hrest
  rw [show seq (Λ := SparseCore.Sig (ΛP (F := F)) 1) (nD := nD) (postOps (F := F)) = (seq postOps >>= fun u => Pure.pure u) from (bind_pure _).symm]
  iapply (StableHlo.wp_seq 𝒱 none Set.univ d (tcRefs τ sig) (fun u => Pure.pure u) postOps postOps_bufs postOps_fresh (V2 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop :=
  s'.mem.mem (eLoc d) = m (eLoc d) ∧ s'.mem.mem (sLoc d) = m (sLoc d) ∧ s'.mem.mem (d, rRef) = V3 m d rRef

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  have hm (b : Ref sig .tc) := h _ (StableHlo.devRef_mem_tcRefs (τ := τ) b)
  exact ⟨(hm main_arg0).trans (V3_e m d), (hm main_arg1).trans (V3_s m d), hm main_v23⟩

/-! ## The run -/

/-- At the end the inputs are as they were, the result is the mean of the partial sums, and every semaphore is zero. -/
def QC : PUnit × MemSt nD τ sig (Elt F) → Prop := fun r =>
  (∀ c : Dev nD, r.2.mem (eLoc c) = m (eLoc c) ∧ r.2.mem (sLoc c) = m (sLoc c) ∧ r.2.mem (c, rRef) = V3 m c rRef) ∧ r.2.sem = fun _ => 0

theorem run_main [∀ e, Nonempty (Elt F e)] (hpre : ClassOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Reference.lean ====
/-
  The reference's lines as lists, its run, and the arrays at which it reads its arguments.
-/
module

public import proofs.«01_k».proof.Proof.Gen.ReferenceIdeal
public import Idealize.ShloMosaic.Lib.Claim
public import Idealize.ShloMosaic.Lib.Quiescent

@[expose] public section

noncomputable section

namespace Cert.Proof.Ref

open Cert.ReferenceIdeal Cert.ReferenceIdeal.Gen

open Idealize.ShloMosaic
open Idealize.ShloMosaic.StableHlo
open Idealize.SL Idealize.SL.RA Idealize.SL.BI
open Idealize.SL.Sem

variable {F : FTy → Type} [FloatOps F]

/-- The lines of `clip(i, lo, hi)`. -/
def clipOps (arg0 : TRef sig ⟨S4194304, .i32⟩) (arg1 arg2 : TRef sig ⟨S_, .i32⟩) (φ : fn_clip.Bufs) : List (HloOp τ sig (Elt F)) :=
  [TRef.unary arg1 φ.v0 id,
   TRef.unary φ.v0 φ.v1 (broadcastInDim S4194304 ![] bcast_S_S4194304),
   TRef.binary φ.v1 arg0 φ.v2 maxsi,
   TRef.unary arg2 φ.v3 id,
   TRef.unary φ.v3 φ.v4 (broadcastInDim S4194304 ![] bcast_S_S4194304),
   TRef.binary φ.v4 φ.v2 φ.v5 minsi]

/-- The lines of `take(table, i)`. -/
def takeOps (arg0 : TRef sig ⟨S19, .f32⟩) (arg1 : TRef sig ⟨S4194304, .i32⟩) (φ : fn_take.Bufs) : List (HloOp τ sig (Elt F)) :=
  [TRef.nullary φ.c (constantI S_ 32 0#32),
   TRef.unary φ.c φ.v0 (broadcastInDim S4194304 ![] bcast_S_S4194304),
   TRef.binary arg1 φ.v0 φ.v1 (cmpi .slt),
   TRef.nullary φ.c_0 (constantI S_ 32 19#32),
   TRef.unary φ.c_0 φ.v2 (broadcastInDim S4194304 ![] bcast_S_S4194304),
   TRef.binary arg1 φ.v2 φ.v3 addi,
   TRef.ternary φ.v1 φ.v3 arg1 φ.call0.v0 select,
   TRef.unary φ.call0.v0 φ.v5 (broadcastInDim S4194304x1 ![0] bcast_S4194304_S4194304x1_0),
   TRef.nullary φ.c_1 (constantI S1 32 18#32),
   TRef.nullary φ.c_2 (constantI S_ 32 0#32),
   TRef.unary φ.c_2 φ.v6 (broadcastInDim S4194304x1 ![] bcast_S_S4194304x1),
   TRef.binary φ.v5 φ.v6 φ.v7 (cmpi .sge),
   TRef.unary φ.c_1 φ.v8 (broadcastInDim S1x1 ![1] bcast_S1_S1x1_1),
   TRef.unary φ.v8 φ.v9 (broadcastInDim S4194304x1 ![0, 1] bcast_S1x1_S4194304x1_0_1),
   TRef.binary φ.v5 φ.v9 φ.v10 (cmpi .sle),
   TRef.binary φ.v7 φ.v10 φ.v11 andi,
   TRef.nullary φ.c_3 (constantI S_ 1 1#1),
   TRef.binary φ.v11 φ.c_3 φ.v12 (fun x v => Host.reduce IntOp.andi x v reducesTo_S4194304x1_S4194304_d1 h_S_),
   TRef.binary arg0 φ.v5 φ.v13 (fun x i => Host.gather gather_S19_S4194304x1_S4194304_n_0_n_n_0_1_1 x i),
   TRef.nullary φ.cst (constant S_ .f32 0x7FC00000#32),
   TRef.unary φ.cst φ.v14 (broadcastInDim S4194304 ![] bcast_S_S4194304),
   TRef.ternary φ.v12 φ.v13 φ.v14 φ.v15 select]

/-- The lines of `relu(x)`. -/
def reluOps (arg0 : TRef sig ⟨S16x512x512, .f32⟩) (φ : fn_relu.Bufs) : List (HloOp τ sig (Elt F)) :=
  [TRef.nullary φ.cst (constant S_ .f32 0x00000000#32),
   TRef.unary φ.cst φ.v0 (broadcastInDim S16x512x512 ![] bcast_S_S16x512x512),
   TRef.binary arg0 φ.v0 φ.v1 maximumf]

/-- The tables, and the pixels and classes reshaped. -/
def headOps : List (HloOp τ sig (Elt F)) :=
  [nullary main_cst (fun i => FloatOps.ofBits .f32 (lit0 (S19.rowMajor i))),
   nullary main_cst_0 (fun i => FloatOps.ofBits .f32 (lit1 (S19.rowMajor i))),
   reshape main_arg0 main_v0 (rfl : (.f32 : EltTy) = .f32) shapeCasts_S16x1x512x512_S16x512x512,
   reshape main_arg1 main_v1 (rfl : (.i32 : EltTy) = .i32) shapeCasts_S16x512x512_S4194304,
   nullary main_c (constantI S_ 32 0#32),
   nullary main_c_1 (constantI S_ 32 18#32)]

/-- The distance outside the bounds, before its negative part is dropped. -/
def distOps : List (HloOp τ sig (Elt F)) :=
  [binary main_v0 main_v4 main_v7 (subf : (⟨S16x512x512, .f32⟩ : BufTy).Contents (Elt F) → (⟨S16x512x512, .f32⟩ : BufTy).Contents (Elt F) → (⟨S16x512x512, .f32⟩ : BufTy).Contents (Elt F)),
   unary main_v7 main_v8 (Host.absf : (⟨S16x512x512, .f32⟩ : BufTy).Contents (Elt F) → (⟨S16x512x512, .f32⟩ : BufTy).Contents (Elt F)),
   nullary main_cst_2 (constant S_ .f32 0x3FC00000#32),
   unary main_cst_2 main_v9 (broadcastInDim S16x512x512 ![] bcast_S_S16x512x512 : (⟨S_, .f32⟩ : BufTy).Contents (Elt F) → (⟨S16x512x512, .f32⟩ : BufTy).Contents (Elt F)),
   binary main_v9 main_v6 main_v10 (mulf : (⟨S16x512x512, .f32⟩ : BufTy).Contents (Elt F) → (⟨S16x512x512, .f32⟩ : BufTy).Contents (Elt F) → (⟨S16x512x512, .f32⟩ : BufTy).Contents (Elt F)),
   binary main_v8 main_v10 main_v11 (subf : (⟨S16x512x512, .f32⟩ : BufTy).Contents (Elt F) → (⟨S16x512x512, .f32⟩ : BufTy).Contents (Elt F) → (⟨S16x512x512, .f32⟩ : BufTy).Contents (Elt F))]

/-- The mask and the two sums. -/
def sumOps : List (HloOp τ sig (Elt F)) :=
  [nullary main_c_3 (constantI S_ 32 4294967295#32),
   unary main_c_3 main_v13 (broadcastInDim S16x512x512 ![] bcast_S_S16x512x512 : (⟨S_, .i32⟩ : BufTy).Contents (Elt F) → (⟨S16x512x512, .i32⟩ : BufTy).Contents (Elt F)),
   binary main_arg1 main_v13 main_v14 (cmpi .ne : (⟨S16x512x512, .i32⟩ : BufTy).Contents (Elt F) → (⟨S16x512x512, .i32⟩ : BufTy).Contents (Elt F) → (⟨S16x512x512, .i1⟩ : BufTy).Contents (Elt F)),
   unary main_v14 main_v15 (uitofp .f32 : (⟨S16x512x512, .i1⟩ : BufTy).Contents (Elt F) → (⟨S16x512x512, .f32⟩ : BufTy).Contents (Elt F)),
   nullary main_cst_4 (constant S_ .f32 0x3DF5C28F#32),
   unary main_cst_4 main_v16 (broadcastInDim S16x512x512 ![] bcast_S_S16x512x512 : (⟨S_, .f32⟩ : BufTy).Contents (Elt F) → (⟨S16x512x512, .f32⟩ : BufTy).Contents (Elt F)),
   binary main_v6 main_v16 main_v17 (cmpf .olt : (⟨S16x512x512, .f32⟩ : BufTy).Contents (Elt F) → (⟨S16x512x512, .f32⟩ : BufTy).Contents (Elt F) → (⟨S16x512x512, .i1⟩ : BufTy).Contents (Elt F)),
   unary main_v17 main_v18 (uitofp .f32 : (⟨S16x512x512, .i1⟩ : BufTy).Contents (Elt F) → (⟨S16x512x512, .f32⟩ : BufTy).Contents (Elt F)),
   binary main_v15 main_v18 main_v19 (mulf : (⟨S16x512x512, .f32⟩ : BufTy).Contents (Elt F) → (⟨S16x512x512, .f32⟩ : BufTy).Contents (Elt F) → (⟨S16x512x512, .f32⟩ : BufTy).Contents (Elt F)),
   nullary main_cst_5 (constant S_ .f32 0x00000000#32),
   binary main_v19 main_cst_5 main_v20 ((fun x v => Host.reduceAdd x v reducesTo_S16x512x512_S_d0_1_2 h_S_) : (⟨S16x512x512, .f32⟩ : BufTy).Contents (Elt F) → (⟨S_, .f32⟩ : BufTy).Contents (Elt F) → (⟨S_, .f32⟩ : BufTy).Contents (Elt F)),
   nullary main_cst_6 (constant S_ .f32 0x3F800000#32),
   binary main_v20 main_cst_6 main_v21 (cmpf .olt : (⟨S_, .f32⟩ : BufTy).Contents (Elt F) → (⟨S_, .f32⟩ : BufTy).Contents (Elt F) → (⟨S_, .i1⟩ : BufTy).Contents (Elt F)),
   binary main_v12 main_v19 main_v22 (mulf : (⟨S16x512x512, .f32⟩ : BufTy).Contents (Elt F) → (⟨S16x512x512, .f32⟩ : BufTy).Contents (Elt F) → (⟨S16x512x512, .f32⟩ : BufTy).Contents (Elt F)),
   nullary main_cst_7 (constant S_ .f32 0x00000000#32),
   binary main_v22 main_cst_7 main_v23 ((fun x v => Host.reduceAdd x v reducesTo_S16x512x512_S_d0_1_2 h_S_) : (⟨S16x512x512, .f32⟩ : BufTy).Contents (Elt F) → (⟨S_, .f32⟩ : BufTy).Contents (Elt F) → (⟨S_, .f32⟩ : BufTy).Contents (Elt F)),
   nullary main_cst_8 (constant S_ .f32 0x3F800000#32),
   binary main_v20 main_cst_8 main_v24 (maximumf : (⟨S_, .f32⟩ : BufTy).Contents (Elt F) → (⟨S_, .f32⟩ : BufTy).Contents (Elt F) → (⟨S_, .f32⟩ : BufTy).Contents (Elt F)),
   binary main_v23 main_v24 main_v25 (Host.divf : (⟨S_, .f32⟩ : BufTy).Contents (Elt F) → (⟨S_, .f32⟩ : BufTy).Contents (Elt F) → (⟨S_, .f32⟩ : BufTy).Contents (Elt F)),
   nullary main_cst_9 (constant S_ .f32 0x00000000#32),
   TRef.ternary (.of main_v21) (.of main_cst_9) (.of main_v25) main_call4.v0 select]

/-- The lines up to the clipped classes, -/
def idxOps : List (HloOp τ sig (Elt F)) := headOps ++ clipOps (.of main_v1) (.of main_c) (.of main_c_1) main_call0
/-- those that look up the mean, -/
def muOps : List (HloOp τ sig (Elt F)) := takeOps (.of main_cst) (.of main_v2) main_call1 ++
  [reshape main_v3 main_v4 (rfl : (.f32 : EltTy) = .f32) shapeCasts_S4194304_S16x512x512]
/-- those that look up the deviation, -/
def sdOps : List (HloOp τ sig (Elt F)) := takeOps (.of main_cst_0) (.of main_v2) main_call2 ++
  [reshape main_v5 main_v6 (rfl : (.f32 : EltTy) = .f32) shapeCasts_S4194304_S16x512x512]
/-- and the rest. -/
def restOps : List (HloOp τ sig (Elt F)) := distOps ++ (reluOps (.of main_v11) main_call3 ++ sumOps)

/-- All lines of the reference. -/
def refOps : List (HloOp τ sig (Elt F)) := idxOps ++ (muOps ++ (sdOps ++ restOps))

/-- The reference is those lines in order. -/
theorem main_eq (d : Dev nD) : main (F := F) d = seq refOps := by
  rfl

/-- Every line touches arrays of the host alone, -/
theorem refOps_bufs : (refOps (F := F)).Forall fun op => op.bufs ⊆ tcRefs τ sig := by
  unfold refOps idxOps muOps sdOps restOps headOps distOps sumOps clipOps takeOps reluOps; simp
/-- and allocates none. -/
theorem refOps_fresh : ∀ op ∈ refOps (F := F), op.fresh = ∅ := by
  rw [← List.forall_iff_forall_mem]; unfold refOps idxOps muOps sdOps restOps headOps distOps sumOps clipOps takeOps reluOps
  simp only [List.cons_append, List.nil_append, List.Forall]; and_intros <;> rfl

/-- The reference runs to the end: every array of the host holds what its lines compute, and no counter is left raised. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = after refOps (launchContents m d) (Proc.devRef .tc b))
      ∧ r.2.sem = fun _ => 0 :=
  θ_run_mono (run_hlo (defs (F := F)) (main (F := F)) (ops := refOps) main_eq (by decide) (by decide) refOps_bufs refOps_fresh m ρ)
    fun r h => ⟨h, sem_eq_zero_of_no_sems (by decide) r.2⟩

end Cert.Proof.Ref

end
-- ==== Proof.RefRead.lean ====
/-
  What the reference's lines leave in each array that later lines read, and in its result.
-/
module

public import proofs.«01_k».proof.Proof.Reference

@[expose] public section

noncomputable section

namespace Cert.Proof.Ref

open Cert.ReferenceIdeal Cert.ReferenceIdeal.Gen

open Idealize.ShloMosaic
open Idealize.ShloMosaic.StableHlo
open Idealize.SL Idealize.SL.RA Idealize.SL.BI
open Idealize.SL.Sem

variable {F : FTy → Type} [FloatOps F]

/-- Lines in two parts are run one part after the other. -/
theorem after_parts (l₁ l₂ : List (HloOp τ sig (Elt F))) (V : Valuation τ sig (Elt F)) : after (l₁ ++ l₂) V = after l₂ (after l₁ V) := by
  induction l₁ generalizing V with
  | nil => rfl
  | cons op l ih => exact ih _

/-- An array of the host, among the device's. -/
abbrev at' (b : Ref sig .tc) : DevRef τ sig := Proc.devRef .tc b

/-- `clip(i, 0, 18)`. -/
def clipVal (i : IVec S4194304 32) : IVec S4194304 32 :=
  minsi (broadcastInDim S4194304 ![] bcast_S_S4194304 (constantI S_ 32 18#32))
    (maxsi (broadcastInDim S4194304 ![] bcast_S_S4194304 (constantI S_ 32 0#32)) i)

/-- The indices that `take` looks up: one from the end where negative. -/
def takeIdx (i : IVec S4194304 32) : IVec S4194304x1 32 :=
  broadcastInDim S4194304x1 ![0] bcast_S4194304_S4194304x1_0
    (select (cmpi .slt i (broadcastInDim S4194304 ![] bcast_S_S4194304 (constantI S_ 32 0#32)))
      (addi i (broadcastInDim S4194304 ![] bcast_S_S4194304 (constantI S_ 32 19#32))) i)

/-- Where they are in the table. -/
def takeIn (x : IVec S4194304x1 32) : IVec S4194304 1 :=
  Host.reduce IntOp.andi
    (andi (cmpi .sge x (broadcastInDim S4194304x1 ![] bcast_S_S4194304x1 (constantI S_ 32 0#32)))
      (cmpi .sle x (broadcastInDim S4194304x1 ![0, 1] bcast_S1x1_S4194304x1_0_1 (broadcastInDim S1x1 ![1] bcast_S1_S1x1_1 (constantI S1 32 18#32)))))
    (constantI S_ 1 1#1) reducesTo_S4194304x1_S4194304_d1 h_S_

/-- `take(t, i)`: the entry, or no number outside the table. -/
def takeVal (t : FVec F S19 .f32) (i : IVec S4194304 32) : FVec F S4194304 .f32 :=
  select (takeIn (takeIdx i)) (Host.gather gather_S19_S4194304x1_S4194304_n_0_n_n_0_1_1 t (takeIdx i))
    (broadcastInDim S4194304 ![] bcast_S_S4194304 (constant S_ .f32 0x7FC00000#32))

/-- The distance outside the bounds, from the pixels, the means and the deviations. -/
def penArr (e mu sd : FVec F S16x512x512 .f32) : FVec F S16x512x512 .f32 :=
  maximumf (subf (Host.absf (subf e mu)) (mulf (broadcastInDim S16x512x512 ![] bcast_S_S16x512x512 (constant S_ .f32 0x3FC00000#32)) sd))
    (broadcastInDim S16x512x512 ![] bcast_S_S16x512x512 (constant S_ .f32 0x00000000#32))

/-- The mask, from the classes and the deviations. -/
def maskArr (s : IVec S16x512x512 32) (sd : FVec F S16x512x512 .f32) : FVec F S16x512x512 .f32 :=
  mulf (uitofp .f32 (cmpi .ne s (broadcastInDim S16x512x512 ![] bcast_S_S16x512x512 (constantI S_ 32 4294967295#32))))
    (uitofp .f32 (cmpf .olt sd (broadcastInDim S16x512x512 ![] bcast_S_S16x512x512 (constant S_ .f32 0x3DF5C28F#32))))

/-- The sum of an array. -/
def sumArr (x : FVec F S16x512x512 .f32) : FVec F S_ .f32 :=
  Host.reduceAdd x (constant S_ .f32 0x00000000#32) reducesTo_S16x512x512_S_d0_1_2 h_S_

/-- A sum over a count, zero where nothing is counted. -/
def meanVal (p n : FVec F S_ .f32) : FVec F S_ .f32 :=
  select (cmpf .olt n (constant S_ .f32 0x3F800000#32)) (constant S_ .f32 0x00000000#32)
    (Host.divf p (maximumf n (constant S_ .f32 0x3F800000#32)))

variable (V : Valuation τ sig (Elt F))

/-! ## Up to the clipped classes -/

theorem idx_arg0 : after idxOps V (at' main_arg0) = V (at' main_arg0) := by
  unfold idxOps headOps clipOps; rw [after_parts]; after_results_simp
theorem idx_arg1 : after idxOps V (at' main_arg1) = V (at' main_arg1) := by
  unfold idxOps headOps clipOps; rw [after_parts]; after_results_simp
theorem idx_cst : after idxOps V (at' main_cst) = fun i => FloatOps.ofBits .f32 (lit0 (S19.rowMajor i)) := by
  unfold idxOps headOps clipOps; rw [after_parts]; after_results_simp; rfl
theorem idx_cst_0 : after idxOps V (at' main_cst_0) = fun i => FloatOps.ofBits .f32 (lit1 (S19.rowMajor i)) := by
  unfold idxOps headOps clipOps; rw [after_parts]; after_results_simp; rfl
theorem idx_v0 : after idxOps V (at' main_v0) = shapeCast S16x512x512 (V (at' main_arg0)) shapeCasts_S16x1x512x512_S16x512x512 := by
  unfold idxOps headOps clipOps; rw [after_parts]; after_results_simp; rfl
theorem idx_v2 : after idxOps V (at' main_v2) = clipVal (shapeCast S4194304 (V (at' main_arg1)) shapeCasts_S16x512x512_S4194304) := by
  unfold idxOps headOps clipOps; rw [after_parts]; after_results_simp; rfl

/-! ## The two lookups -/

theorem mu_v4 : after muOps V (at' main_v4) = shapeCast S16x512x512 (takeVal (V (at' main_cst)) (V (at' main_v2))) shapeCasts_S4194304_S16x512x512 := by
  unfold muOps takeOps; rw [after_parts]; after_results_simp; simp -implicitDefEqProofs only [TRef.ofBuf_toBuf, TRef.toBuf, TRef.ofBuf, cast_eq]; rfl
theorem mu_arg0 : after muOps V (at' main_arg0) = V (at' main_arg0) := by unfold muOps takeOps; rw [after_parts]; after_results_simp
theorem mu_arg1 : after muOps V (at' main_arg1) = V (at' main_arg1) := by unfold muOps takeOps; rw [after_parts]; after_results_simp
theorem mu_v0 : after muOps V (at' main_v0) = V (at' main_v0) := by unfold muOps takeOps; rw [after_parts]; after_results_simp
theorem mu_v2 : after muOps V (at' main_v2) = V (at' main_v2) := by unfold muOps takeOps; rw [after_parts]; after_results_simp
theorem mu_cst_0 : after muOps V (at' main_cst_0) = V (at' main_cst_0) := by unfold muOps takeOps; rw [after_parts]; after_results_simp

theorem sd_v6 : after sdOps V (at' main_v6) = shapeCast S16x512x512 (takeVal (V (at' main_cst_0)) (V (at' main_v2))) shapeCasts_S4194304_S16x512x512 := by
  unfold sdOps takeOps; rw [after_parts]; after_results_simp; simp -implicitDefEqProofs only [TRef.ofBuf_toBuf, TRef.toBuf, TRef.ofBuf, cast_eq]; rfl
theorem sd_arg0 : after sdOps V (at' main_arg0) = V (at' main_arg0) := by unfold sdOps takeOps; rw [after_parts]; after_results_simp
theorem sd_arg1 : after sdOps V (at' main_arg1) = V (at' main_arg1) := by unfold sdOps takeOps; rw [after_parts]; after_results_simp
theorem sd_v0 : after sdOps V (at' main_v0) = V (at' main_v0) := by unfold sdOps takeOps; rw [after_parts]; after_results_simp
theorem sd_v4 : after sdOps V (at' main_v4) = V (at' main_v4) := by unfold sdOps takeOps; rw [after_parts]; after_results_simp

/-! ## The rest -/

theorem rest_arg0 : after restOps V (at' main_arg0) = V (at' main_arg0) := by
  unfold restOps distOps reluOps sumOps; rw [after_parts, after_parts]; after_results_simp
theorem rest_arg1 : after restOps V (at' main_arg1) = V (at' main_arg1) := by
  unfold restOps distOps reluOps sumOps; rw [after_parts, after_parts]; after_results_simp

theorem dist_v11 : after distOps V (at' main_v11) = subf (Host.absf (subf (V (at' main_v0)) (V (at' main_v4))))
    (mulf (broadcastInDim S16x512x512 ![] bcast_S_S16x512x512 (constant S_ .f32 0x3FC00000#32)) (V (at' main_v6))) := by
  unfold distOps; after_results_simp
theorem dist_v6 : after distOps V (at' main_v6) = V (at' main_v6) := by unfold distOps; after_results_simp
theorem dist_arg1 : after distOps V (at' main_arg1) = V (at' main_arg1) := by unfold distOps; after_results_simp

theorem relu_v12 : after (reluOps (.of main_v11) main_call3) V (at' main_v12) = maximumf (V (at' main_v11))
    (broadcastInDim S16x512x512 ![] bcast_S_S16x512x512 (constant S_ .f32 0x00000000#32)) := by
  unfold reluOps; after_results_simp; rfl
theorem relu_v6 : after (reluOps (.of main_v11) main_call3) V (at' main_v6) = V (at' main_v6) := by unfold reluOps; after_results_simp
theorem relu_arg1 : after (reluOps (.of main_v11) main_call3) V (at' main_arg1) = V (at' main_arg1) := by unfold reluOps; after_results_simp

theorem sum_v26 : after sumOps V (at' main_v26) = meanVal (sumArr (mulf (V (at' main_v12)) (maskArr (V (at' main_arg1)) (V (at' main_v6)))))
    (sumArr (maskArr (V (at' main_arg1)) (V (at' main_v6)))) := by
  unfold sumOps; after_results_simp; rfl

theorem rest_v26 : after restOps V (at' main_v26) = meanVal
    (sumArr (mulf (penArr (V (at' main_v0)) (V (at' main_v4)) (V (at' main_v6))) (maskArr (V (at' main_arg1)) (V (at' main_v6)))))
    (sumArr (maskArr (V (at' main_arg1)) (V (at' main_v6)))) := by
  unfold restOps; rw [after_parts, after_parts, sum_v26, relu_v12, relu_v6, relu_arg1, dist_v11, dist_v6, dist_arg1]; rfl

/-! ## All lines -/

theorem arg0_eq : after refOps V (at' main_arg0) = V (at' main_arg0) := by
  unfold refOps; rw [after_parts, after_parts, after_parts, rest_arg0, sd_arg0, mu_arg0, idx_arg0]
theorem arg1_eq : after refOps V (at' main_arg1) = V (at' main_arg1) := by
  unfold refOps; rw [after_parts, after_parts, after_parts, rest_arg1, sd_arg1, mu_arg1, idx_arg1]

/-- A table looked up at every pixel's class. -/
def lookArr (t : FVec F S19 .f32) (s : IVec S16x512x512 32) : FVec F S16x512x512 .f32 :=
  shapeCast S16x512x512 (takeVal t (clipVal (shapeCast S4194304 s shapeCasts_S16x512x512_S4194304))) shapeCasts_S4194304_S16x512x512

/-- The means and the deviations by class. -/
def muTab : FVec F S19 .f32 := fun i => FloatOps.ofBits .f32 (lit0 (S19.rowMajor i))
def sdTab : FVec F S19 .f32 := fun i => FloatOps.ofBits .f32 (lit1 (S19.rowMajor i))

/-- The reference's result: the masked mean of the distances. -/
theorem v26_eq : after refOps V (at' main_v26) = meanVal
    (sumArr (mulf (penArr (shapeCast S16x512x512 (V (at' main_arg0)) shapeCasts_S16x1x512x512_S16x512x512)
        (lookArr muTab (V (at' main_arg1))) (lookArr sdTab (V (at' main_arg1)))) (maskArr (V (at' main_arg1)) (lookArr sdTab (V (at' main_arg1))))))
    (sumArr (maskArr (V (at' main_arg1)) (lookArr sdTab (V (at' main_arg1))))) := by
  unfold refOps
  rw [after_parts, after_parts, after_parts, rest_v26, sd_v6, sd_v4, sd_v0, sd_arg1, mu_v4, mu_v0, mu_v2, mu_cst_0, mu_arg1,
    idx_cst, idx_cst_0, idx_v0, idx_v2, idx_arg1]
  rfl

/-- That result, of the pixels and the classes. -/
def result (e : FVec F S16x1x512x512 .f32) (s : IVec S16x512x512 32) : FVec F S_ .f32 := meanVal
  (sumArr (mulf (penArr (shapeCast S16x512x512 e shapeCasts_S16x1x512x512_S16x512x512) (lookArr muTab s) (lookArr sdTab s)) (maskArr s (lookArr sdTab s))))
  (sumArr (maskArr s (lookArr sdTab s)))

theorem result_of : after refOps V (at' main_v26) = result (V (at' main_arg0)) (V (at' main_arg1)) := v26_eq V

end Cert.Proof.Ref

end
-- ==== Proof.Frames.lean ====
/-
  What the preconditions say of the pixels, and that each program runs with its arguments unchanged and every counter at
  zero in the end.
-/
module

public import proofs.«01_k».proof.Proof.Launch
public import proofs.«01_k».proof.Proof.RefRead
public import proofs.«01_k».proof.Proof.Gen.Kernel
public import proofs.«01_k».proof.Proof.Gen.Pre_classes
public import Idealize.ShloMosaic.Lib.ReduceAll

@[expose] public section

noncomputable section

/-- The facts that the bounded precondition's operations take. -/
instance Cert.Proof.boundedFacts : Cert.Pre_bounded.Facts where
  shapeCasts_S16x1x512x512_S16x512x512 := by decide
  bcast_S_S16x512x512 := by decide
  reducesTo_S16x512x512_S_d0_1_2 := by decide
  h_S_ := by decide

namespace Cert.Proof

open Idealize.ShloMosaic
open Idealize.ShloMosaic.StableHlo
open Idealize.SL Idealize.SL.RA Idealize.SL.BI
open Idealize.SL.Sem

theorem andi_ofBool (a b : Bool) : IntOp.andi (BitVec.ofBool a) (BitVec.ofBool b) = BitVec.ofBool (a && b) := by
  cases a <;> cases b <;> decide
theorem ofBool_eq_one (a : Bool) : BitVec.ofBool a = 1#1 ↔ a = true := by cases a <;> decide

/-- A class between 0 and 18, compared as a signed word, is less than 19. -/
theorem class_lt {v : BitVec 32} (e : IntOp.andi (IntOp.cmpi .sge v 0#32) (IntOp.cmpi .slt v 19#32) = 1#1) : v.toNat < 19 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Every class of a class map is one of the nineteen. -/
def Classes (s : Cert.KernelIdeal.S16x512x512.Idx → BitVec 32) : Prop := ∀ i, (s i).toNat < 19

instance : Subsingleton Cert.KernelIdeal.S_.Idx := ⟨fun a b => funext fun i => i.elim0⟩

/-- The first precondition says that every class is one of the nineteen. -/
theorem classes_of_pre {F : FTy → Type} [FloatOps F] {e : FVec F Cert.KernelIdeal.S16x1x512x512 .f32} {s : IVec Cert.KernelIdeal.S16x512x512 32}
    (h : Cert.Pre_classes.fn (F := F) e s = fun _ => 1#1) : Classes s := fun i =>
  class_lt (Host.reduce_andi_all (t := Cert.KernelIdeal.S_) _ _ _ _ (fun a => a.elim0) (congrFun h _) i)

/-- The second says so too, -/
theorem classes_of_bounded {F : FTy → Type} [FloatOps F] {e : FVec F Cert.KernelIdeal.S16x1x512x512 .f32} {s : IVec Cert.KernelIdeal.S16x512x512 32}
    (h : Cert.Pre_bounded.fn (F := F) e s = fun _ => 1#1) : Classes s := fun i =>
  class_lt (IntOp.andi_eq_one.1 (Host.reduce_andi_all (t := Cert.KernelIdeal.S_) _ _ _ _ (fun a => a.elim0) (congrFun h _) i)).1

/-- and that a pixel of the masked class is at most a billion in size. -/
theorem size_of_bounded {F : FTy → Type} [FloatOps F] {e : FVec F Cert.KernelIdeal.S16x1x512x512 .f32} {s : IVec Cert.KernelIdeal.S16x512x512 32}
    (h : Cert.Pre_bounded.fn (F := F) e s = fun _ => 1#1) (i : Cert.KernelIdeal.S16x512x512.Idx) (hs : s i = 14#32) :
    FloatOps.cmpf .ole (FloatOps.hostAbsf (shapeCast Cert.KernelIdeal.S16x512x512 e (Cert.Pre_bounded.Facts.shapeCasts_S16x1x512x512_S16x512x512) i))
      (FloatOps.ofBits (F := F) .f32 0x4E6E6B28#32) = 1#1 := by
  have h1 := (IntOp.andi_eq_one.1 (Host.reduce_andi_all (t := Cert.KernelIdeal.S_) _ _ _ _ (fun a => a.elim0) (congrFun h _) i)).2
  change IntOp.ori (IntOp.cmpi .ne (s i) 14#32) (FloatOps.cmpf .ole (FloatOps.hostAbsf (shapeCast Cert.KernelIdeal.S16x512x512 e _ i)) (FloatOps.ofBits (F := F) .f32 0x4E6E6B28#32)) = 1#1 at h1
  rw [hs] at h1
  rw [show IntOp.cmpi .ne 14#32 14#32 = 0#1 from by decide] at h1
  generalize FloatOps.cmpf .ole (FloatOps.hostAbsf (shapeCast Cert.KernelIdeal.S16x512x512 e _ i)) (FloatOps.ofBits (F := F) .f32 0x4E6E6B28#32) = b at h1 ⊢
  revert h1
  revert b
  decide

/-- Classes below nineteen index the table of thirty-two. -/
theorem classOK {F : FTy → Type} [FloatOps F] {m : (ℓ : Loc Cert.KernelIdeal.nD Cert.KernelIdeal.τ Cert.KernelIdeal.sig) → Buf (Elt F) ℓ}
    (h : ∀ d, Classes (m (sLoc d))) : ClassOK m := fun d _ _ => lt_trans (h d _) (by decide)

/-- The kernel in its own float types runs to the end. -/
theorem frame_kernel : Cert.quiescent_Kernel := fun m ρ h =>
  θ_run_mono (run_main (F := Bits) m ρ (classOK fun d => classes_of_pre (h d))) fun _ h => ⟨fun c => ⟨(h.1 c).1, (h.1 c).2.1⟩, h.2⟩

/-- The kernel over the extended reals runs to the end, for arguments of the first precondition -/
theorem frame_kernelIdeal : Cert.quiescent_KernelIdeal := fun m ρ h =>
  θ_run_mono (run_main (F := Ideal) m ρ (classOK fun d => classes_of_pre (h d))) fun _ h => ⟨fun c => ⟨(h.1 c).1, (h.1 c).2.1⟩, h.2⟩

/-- and of the second. -/
theorem frame_kernelIdeal_bounded : Cert.quiescent_KernelIdeal_pre_bounded := fun m ρ h =>
  θ_run_mono (run_main (F := Ideal) m ρ (classOK fun d => classes_of_bounded (h d))) fun _ h => ⟨fun c => ⟨(h.1 c).1, (h.1 c).2.1⟩, h.2⟩

/-- The reference runs to the end, for all arguments -/
theorem frame_referenceIdeal : Cert.quiescent_ReferenceIdeal := fun m ρ _ =>
  θ_run_mono (Ref.run_main (F := Ideal) m ρ) fun _ h => ⟨fun c => ⟨(h.1 c _).trans (Ref.arg0_eq _), (h.1 c _).trans (Ref.arg1_eq _)⟩, h.2⟩

/-- and so for those of the second precondition. -/
theorem frame_referenceIdeal_bounded : Cert.quiescent_ReferenceIdeal_pre_bounded := fun m ρ _ => frame_referenceIdeal m ρ trivial

end Cert.Proof

end
-- ==== Proof.Sums.lean ====
/-
  The sums of the call, over the extended reals: its 1024 partial sums, added up, are the sums over all pixels.
-/
module

public import proofs.«01_k».proof.Proof.Tile
public import Idealize.ShloMosaic.Lib.IdealHost

@[expose] public section

noncomputable section

namespace Cert.Proof

open Cert.KernelIdeal Cert.KernelIdeal.Gen

open Idealize.ShloMosaic

/-! ## Sums by rows -/

/-- A sum of `a * b` terms, by `a` rows of `b`. -/
theorem sum_rows (a b : ℕ) (f : ℕ → EReal) :
    ∑ n ∈ Finset.range (a * b), f n = ∑ i ∈ Finset.range a, ∑ j ∈ Finset.range b, f (b * i + j) := by
  induction a with
  | zero => simp
  | succ a ih => rw [Nat.succ_mul, Finset.sum_range_add, ih, Finset.sum_range_succ, Nat.mul_comm a b]

/-- A sum over a shape's indices, by their positions in row-major order. -/
theorem sum_idx (s : Shape) (f : s.Idx → EReal) (g : ℕ → EReal) (h : ∀ i, f i = g (s.rowMajor i).val) :
    ∑ i, f i = ∑ n ∈ Finset.range s.numel, g n := by
  rw [Finset.sum_range]
  exact Fintype.sum_equiv s.rowMajor _ _ h

/-- A step that adds `g n` to a quantity, repeated, adds the sum. -/
theorem iter_add {α : Type} (p : α → EReal) (f : ℕ → α → α) (g : ℕ → EReal) (h : ∀ n a, p (f n a) = p a + g n) (n : ℕ) (a : α) :
    p (iter f n a) = p a + ∑ i ∈ Finset.range n, g i := by
  induction n with
  | zero => simp [iter]
  | succ n ih => rw [iter, h, ih, Finset.sum_range_succ, add_assoc]

/-! ## What a subcore sums -/

section Tile

variable (lo hi : Vec Ideal S32 .f32) (e : ℕ → ℕ → EReal) (s : ℕ → ℕ → BitVec 32)

/-- A quantity to which each trip adds a term for each of its two groups of columns gains, over a subcore's 256 rows, the
    sum of all groups' terms. -/
theorem tile_add (p : Acc Ideal → EReal) (q : ℕ → ℕ → EReal)
    (h : ∀ R t a, p (tripAcc (F := Ideal) lo hi (e R) (s R) t a) = p a + (q R (2 * t) + q R (2 * t + 1))) (R : ℕ) (a : Acc Ideal) :
    p (tileAcc (F := Ideal) lo hi e s R 32 a) = p a + ∑ r ∈ Finset.range 256, ∑ k ∈ Finset.range 32, q (R + r) k := by
  have hrow : ∀ R a, p (rowAcc (F := Ideal) lo hi (e R) (s R) a) = p a + ∑ k ∈ Finset.range 32, q R k := fun R a => by
    rw [show (32 : ℕ) = 16 * 2 from rfl, sum_rows]
    refine iter_add p _ _ (fun t a => ?_) 16 a
    rw [Finset.sum_range_succ, Finset.sum_range_one]
    exact h R t a
  have hchunk : ∀ R a, p (chunkAcc (F := Ideal) lo hi e s R a) = p a + ∑ r ∈ Finset.range 8, ∑ k ∈ Finset.range 32, q (R + r) k :=
    fun R a => iter_add p _ _ (fun r a => hrow (R + r) a) 8 a
  rw [show (256 : ℕ) = 32 * 8 from rfl, sum_rows]
  refine iter_add p _ _ (fun k a => ?_) 32 a
  rw [hchunk]
  simp only [Nat.add_assoc]

/-- One lane's distance and one lane's indicator. -/
def pen1 (e : EReal) (c : BitVec 32) : EReal := penV (F := Ideal) lo hi (fun _ => e) (fun _ => c) (lane16 0)
def cnt1 (c : BitVec 32) : EReal := cntV (F := Ideal) hi (fun _ => c) (lane16 0)

/-- A trip adds its first group's distances to the first sums, its second group's to the third, and counts likewise. -/
theorem trip_pen0 (e : ℕ → EReal) (s : ℕ → BitVec 32) (t : ℕ) (a : Acc Ideal) (x : S16.Idx) :
    (tripAcc (F := Ideal) lo hi e s t a).1 x = (a.1 x + pen1 lo hi (e (16 * (2 * t) + (x 0).val)) (s (16 * (2 * t) + (x 0).val)) : EReal) := rfl
theorem trip_cnt0 (e : ℕ → EReal) (s : ℕ → BitVec 32) (t : ℕ) (a : Acc Ideal) (x : S16.Idx) :
    (tripAcc (F := Ideal) lo hi e s t a).2.1 x = (a.2.1 x + cnt1 hi (s (16 * (2 * t) + (x 0).val)) : EReal) := rfl
theorem trip_pen1 (e : ℕ → EReal) (s : ℕ → BitVec 32) (t : ℕ) (a : Acc Ideal) (x : S16.Idx) :
    (tripAcc (F := Ideal) lo hi e s t a).2.2.1 x = (a.2.2.1 x + pen1 lo hi (e (16 * (2 * t + 1) + (x 0).val)) (s (16 * (2 * t + 1) + (x 0).val)) : EReal) := rfl
theorem trip_cnt1 (e : ℕ → EReal) (s : ℕ → BitVec 32) (t : ℕ) (a : Acc Ideal) (x : S16.Idx) :
    (tripAcc (F := Ideal) lo hi e s t a).2.2.2 x = (a.2.2.2 x + cnt1 hi (s (16 * (2 * t + 1) + (x 0).val)) : EReal) := rfl

end Tile

variable (ft : S64.Idx → EReal) (fe : S16x1x512x512.Idx → EReal) (fs : S16x512x512.Idx → BitVec 32)

theorem zeroAcc_zero (x : S16.Idx) : (k0_pay83 (F := Ideal)) x = 0 := Ideal.ofBits_zero_f32

/-- A worker's penalties in a lane are those of its rows' pixels in the lane, -/
theorem workPen_eq (w : ℕ) (x : S16.Idx) :
    workPen (F := Ideal) ft fe fs w x = ∑ r ∈ Finset.range 256, ∑ k ∈ Finset.range 32,
      pen1 (tabLo (F := Ideal) ft) (tabHi (F := Ideal) ft) (pixE (F := Ideal) fe (256 * w + r) (16 * k + (x 0).val)) (pixS fs (256 * w + r) (16 * k + (x 0).val)) := by
  have h := tile_add (tabLo (F := Ideal) ft) (tabHi (F := Ideal) ft) (pixE (F := Ideal) fe) (pixS fs) (fun a => (a.1 x : EReal) + a.2.2.1 x)
    (fun R k => pen1 (tabLo (F := Ideal) ft) (tabHi (F := Ideal) ft) (pixE (F := Ideal) fe R (16 * k + (x 0).val)) (pixS fs R (16 * k + (x 0).val)))
    (fun R t a => by beta_reduce; rw [trip_pen0, trip_pen1]; exact add_add_add_comm _ _ _ _) (256 * w) (zeroAcc (F := Ideal))
  refine h.trans ?_
  show (k0_pay83 (F := Ideal) x : EReal) + k0_pay83 (F := Ideal) x + _ = _
  rw [zeroAcc_zero, add_zero, zero_add]

/-- and its counts likewise. -/
theorem workCnt_eq (w : ℕ) (x : S16.Idx) :
    workCnt (F := Ideal) ft fe fs w x = ∑ r ∈ Finset.range 256, ∑ k ∈ Finset.range 32,
      cnt1 (tabHi (F := Ideal) ft) (pixS fs (256 * w + r) (16 * k + (x 0).val)) := by
  have h := tile_add (tabLo (F := Ideal) ft) (tabHi (F := Ideal) ft) (pixE (F := Ideal) fe) (pixS fs) (fun a => (a.2.1 x : EReal) + a.2.2.2 x)
    (fun R k => cnt1 (tabHi (F := Ideal) ft) (pixS fs R (16 * k + (x 0).val)))
    (fun R t a => by beta_reduce; rw [trip_cnt0, trip_cnt1]; exact add_add_add_comm _ _ _ _) (256 * w) (zeroAcc (F := Ideal))
  refine h.trans ?_
  show (k0_pay83 (F := Ideal) x : EReal) + k0_pay83 (F := Ideal) x + _ = _
  rw [zeroAcc_zero, add_zero, zero_add]

/-! ## All subcores together -/

/-- Over 32 workers of sixteen lanes, 256 rows a worker and 32 groups a row, every pixel is counted once. -/
theorem sum_pixels (q : ℕ → ℕ → EReal) :
    ∑ n ∈ Finset.range 512, ∑ r ∈ Finset.range 256, ∑ k ∈ Finset.range 32, q (256 * (n / 16) + r) (16 * k + n % 16)
      = ∑ n ∈ Finset.range (8192 * 512), q (n / 512) (n % 512) := by
  have hl : ∀ w x, x ∈ Finset.range 16 → (16 * w + x) / 16 = w ∧ (16 * w + x) % 16 = x := fun w x hx => by
    rw [Finset.mem_range] at hx; omega
  have hc : ∀ R C, C ∈ Finset.range 512 → (512 * R + C) / 512 = R ∧ (512 * R + C) % 512 = C := fun R C hC => by
    rw [Finset.mem_range] at hC; omega
  rw [sum_rows 8192 512, show (8192 : ℕ) = 32 * 256 from rfl, sum_rows 32 256, show Finset.range 512 = Finset.range (32 * 16) from rfl, sum_rows 32 16]
  refine Finset.sum_congr rfl fun w _ => ?_
  rw [Finset.sum_congr rfl fun x hx => by rw [(hl w x hx).1, (hl w x hx).2], Finset.sum_comm]
  refine Finset.sum_congr rfl fun r _ => ?_
  rw [Finset.sum_comm, sum_rows 32 16]
  refine Finset.sum_congr rfl fun k hk => Finset.sum_congr rfl fun x hx => ?_
  have : 16 * k + x ∈ Finset.range 512 := by
    rw [Finset.mem_range] at hk hx ⊢; omega
  rw [(hc _ _ this).1, (hc _ _ this).2]

/-- The pixel of row `n / 512` and column `n % 512`, where `n` is the position of `i`, is the pixel at `i`. -/
theorem pixS_rowMajor (i : S16x512x512.Idx) : pixS fs ((S16x512x512.rowMajor i).val / 512) ((S16x512x512.rowMajor i).val % 512) = fs i := by
  have h := Shape.rowMajor_val_three (d := ![16, 512, 512]) i
  have h0 : (i 0).val < 16 := (i 0).isLt
  have h1 : (i 1).val < 512 := (i 1).isLt
  have h2 : (i 2).val < 512 := (i 2).isLt
  have h' : (S16x512x512.rowMajor i).val = ((i 0).val * 512 + (i 1).val) * 512 + (i 2).val := h
  unfold pixS
  congr 1
  funext a
  match a with
  | 0 => exact Fin.ext (by show (S16x512x512.rowMajor i).val / 512 / 512 % 16 = (i 0).val; omega)
  | 1 => exact Fin.ext (by show (S16x512x512.rowMajor i).val / 512 % 512 = (i 1).val; omega)
  | 2 => exact Fin.ext (by show (S16x512x512.rowMajor i).val % 512 % 512 = (i 2).val; omega)

/-- Likewise for the map with its axis of one channel. -/
theorem pixE_rowMajor (h : S16x1x512x512.ShapeCasts S16x512x512) (i : S16x512x512.Idx) :
    pixE (F := Ideal) fe ((S16x512x512.rowMajor i).val / 512) ((S16x512x512.rowMajor i).val % 512) = shapeCast S16x512x512 fe h i := by
  have h3 := Shape.rowMajor_val_three (d := ![16, 512, 512]) i
  have h0 : (i 0).val < 16 := (i 0).isLt
  have h1 : (i 1).val < 512 := (i 1).isLt
  have h2 : (i 2).val < 512 := (i 2).isLt
  have h' : (S16x512x512.rowMajor i).val = ((i 0).val * 512 + (i 1).val) * 512 + (i 2).val := h3
  unfold pixE
  refine (shapeCast_apply _ _ i _ ?_).symm
  rw [Shape.rowMajor_val_four, h']
  show (((((i 0).val * 512 + (i 1).val) * 512 + (i 2).val) / 512 / 512 % 16 * 1 + 0) * 512 + (((i 0).val * 512 + (i 1).val) * 512 + (i 2).val) / 512 % 512) * 512
    + (((i 0).val * 512 + (i 1).val) * 512 + (i 2).val) % 512 % 512 = _
  omega

theorem numel_map : S16x512x512.numel = 8192 * 512 := by decide

/-- The first 512 partial sums add up to all pixels' penalties, -/
theorem sum_pen (h : S16x1x512x512.ShapeCasts S16x512x512) :
    ∑ n ∈ Finset.range 512, workPen (F := Ideal) ft fe fs (n / 16) (lane16 n)
      = ∑ i : S16x512x512.Idx, pen1 (tabLo (F := Ideal) ft) (tabHi (F := Ideal) ft) (shapeCast S16x512x512 fe h i) (fs i) := by
  rw [sum_idx S16x512x512 _ (fun n => pen1 (tabLo (F := Ideal) ft) (tabHi (F := Ideal) ft) (pixE (F := Ideal) fe (n / 512) (n % 512)) (pixS fs (n / 512) (n % 512)))
    fun i => by rw [pixS_rowMajor, pixE_rowMajor fe h], numel_map]
  rw [← sum_pixels fun R C => pen1 (tabLo (F := Ideal) ft) (tabHi (F := Ideal) ft) (pixE (F := Ideal) fe R C) (pixS fs R C)]
  exact Finset.sum_congr rfl fun n _ => workPen_eq ft fe fs (n / 16) (lane16 n)

/-- and the other 512 to their counts. -/
theorem sum_cnt :
    ∑ n ∈ Finset.range 512, workCnt (F := Ideal) ft fe fs (n / 16) (lane16 n)
      = ∑ i : S16x512x512.Idx, cnt1 (tabHi (F := Ideal) ft) (fs i) := by
  rw [sum_idx S16x512x512 _ (fun n => cnt1 (tabHi (F := Ideal) ft) (pixS fs (n / 512) (n % 512)))
    fun i => by rw [pixS_rowMajor], numel_map]
  rw [← sum_pixels fun R C => cnt1 (tabHi (F := Ideal) ft) (pixS fs R C)]
  exact Finset.sum_congr rfl fun n _ => workCnt_eq ft fe fs (n / 16) (lane16 n)

end Cert.Proof

end
-- ==== Proof.Values.lean ====
/-
  The numbers: what the patterns of the two tables and of the constants are worth, and the distance outside the bounds of
  a class, computed in the kernel's two ways.
-/
module

public import proofs.«01_k».proof.Proof.Gen.KernelIdeal
public import Idealize.ShloMosaic.Lib.IdealHost

@[expose] public section

noncomputable section

namespace Cert.Proof

open Cert.KernelIdeal

open Idealize.ShloMosaic

/-! ## Patterns -/

/-- The significand of a pattern of binary exponent at least 100, in units of `2 ^ -50`. -/
def num (b : BitVec 32) : ℕ := (2 ^ 23 + (b.extractLsb' 0 23).toNat) * 2 ^ ((b.extractLsb' 23 8).toNat - 100)

/-- A pattern of a positive number, of binary exponent from 100 to 254. -/
abbrev Mid (b : BitVec 32) : Prop := b.extractLsb' 31 1 ≠ 1#1 ∧ 100 ≤ (b.extractLsb' 23 8).toNat ∧ (b.extractLsb' 23 8).toNat < 255

/-- Such a pattern's number. -/
def val (b : BitVec 32) : ℝ := (num b : ℝ) / 2 ^ 50

theorem ofBits_val {b : BitVec 32} (h : Mid b) : Ideal.ofBits .f32 b = ((val b : ℝ) : EReal) := by
  obtain ⟨hs, h1, h2⟩ := h
  show Ideal.ieee 8 23 b = _
  unfold Ideal.ieee
  simp only [beq_iff_eq, hs, if_false]
  rw [if_neg (by omega), if_neg (by omega)]
  congr 1
  unfold val num
  have hz : (((b.extractLsb' 23 8).toNat : ℤ) - (2 ^ (8 - 1) - 1) - (23 : ℕ)) = (((b.extractLsb' 23 8).toNat - 100 : ℕ) : ℤ) - (50 : ℕ) := by
    push_cast [h1]; norm_num; ring
  rw [hz, zpow_sub₀ (by norm_num), zpow_natCast, zpow_natCast]
  push_cast
  ring

theorem val_nonneg (b : BitVec 32) : 0 ≤ val b := by unfold val; positivity

theorem val_lt {a b : BitVec 32} (h : num a < num b) : val a < val b :=
  div_lt_div_of_pos_right (Nat.cast_lt.2 h) (by positivity)
theorem val_le {a b : BitVec 32} (h : num a ≤ num b) : val a ≤ val b :=
  div_le_div_of_nonneg_right (Nat.cast_le.2 h) (by positivity)

/-- One and a half, two, the limit 0.12 of the deviations, and a billion. -/
abbrev bHalf3 : BitVec 32 := 0x3FC00000#32
abbrev bTwo : BitVec 32 := 0x40000000#32
abbrev bLim : BitVec 32 := 0x3DF5C28F#32
abbrev bBig : BitVec 32 := 0x4E6E6B28#32

theorem half3_val : val bHalf3 = 3 / 2 := by unfold val; rw [show num bHalf3 = 3 * 2 ^ 49 by decide]; norm_num
theorem two_val : val bTwo = 2 := by unfold val; rw [show num bTwo = 2 * 2 ^ 50 by decide]; norm_num
theorem two_le_big : val bTwo ≤ val bBig := val_le (by decide)

/-- The negative bound is the opposite of the positive. -/
theorem neg_big : Ideal.ofBits .f32 0xCE6E6B28#32 = -((val bBig : ℝ) : EReal) := by
  rw [← EReal.coe_neg]
  unfold val
  rw [show num bBig = 1000000000 * 2 ^ 50 by decide]
  simp [Ideal.ofBits, Ideal.ieee, -EReal.coe_mul]
  norm_num

/-! ## The two tables -/

/-- Every mean and deviation is such a pattern; every upper bound is below two; only class 14's deviation is not below the limit. -/
theorem classes_num : ∀ c : Fin 19, Mid (lit0 c) ∧ Mid (lit1 c) ∧ 2 * num (lit0 c) + 3 * num (lit1 c) < 4 * 2 ^ 50
    ∧ (num (lit1 c) < num bLim ↔ c.val ≠ 14) := by decide +kernel

/-- The mean and the deviation of a class. -/
def mean (c : Fin 19) : ℝ := val (lit0 c)
def dev (c : Fin 19) : ℝ := val (lit1 c)

theorem mean_val (c : Fin 19) : Ideal.ofBits .f32 (lit0 c) = ((mean c : ℝ) : EReal) := ofBits_val (classes_num c).1
theorem dev_val (c : Fin 19) : Ideal.ofBits .f32 (lit1 c) = ((dev c : ℝ) : EReal) := ofBits_val (classes_num c).2.1

theorem upper_lt (c : Fin 19) : mean c + 3 / 2 * dev c < 2 := by
  have h : ((2 * num (lit0 c) + 3 * num (lit1 c) : ℕ) : ℝ) < ((4 * 2 ^ 50 : ℕ) : ℝ) := Nat.cast_lt.2 (classes_num c).2.2.1
  push_cast at h
  unfold mean dev val
  rw [show (num (lit0 c) : ℝ) / 2 ^ 50 + 3 / 2 * ((num (lit1 c) : ℝ) / 2 ^ 50) = (2 * num (lit0 c) + 3 * num (lit1 c)) / (2 * 2 ^ 50) by field_simp]
  rw [div_lt_iff₀ (by positivity)]
  linarith

theorem dev_lt {c : Fin 19} (h : c.val ≠ 14) : dev c < val bLim := val_lt ((classes_num c).2.2.2.2 h)
theorem dev_ge {c : Fin 19} (h : c.val = 14) : val bLim ≤ dev c := val_le (not_lt.1 fun hl => (classes_num c).2.2.2.1 hl h)

/-! ## The distance, in two ways -/

/-- The larger of two reals, as an extended real. -/
theorem coe_max (x y : ℝ) : max (x : EReal) (y : EReal) = ((max x y : ℝ) : EReal) := (EReal.coe_strictMono.monotone.map_max).symm

/-- For finite bounds `mu - k` and `mu + k` the distance of any extended real outside them is the part of its distance
    from `mu` above `k`. -/
theorem dist_eq (e : EReal) (mu k : ℝ) :
    max (max (((mu - k : ℝ) : EReal) - e) (e - ((mu + k : ℝ) : EReal))) 0 = max (max (e - (mu : EReal)) (-(e - (mu : EReal))) - (k : EReal)) 0 := by
  induction e with
  | bot => simp; rw [← EReal.coe_sub, EReal.coe_sub_bot]
  | top => simp; rw [← EReal.coe_add, EReal.top_sub_coe]
  | coe x =>
    simp only [← EReal.coe_sub, ← EReal.coe_neg, coe_max]
    congr 2
    rw [← max_sub_sub_right, max_comm]
    congr 1 <;> ring

/-- An extended real of size at most `B` lies within the bounds `-B` and `B`. -/
theorem dist_zero {e : EReal} {B : ℝ} (h : max e (-e) ≤ (B : EReal)) : max (max (-(B : EReal) - e) (e - (B : EReal))) 0 = 0 := by
  induction e with
  | bot => simp at h
  | top => simp at h
  | coe x =>
    simp only [← EReal.coe_sub, ← EReal.coe_neg, coe_max, EReal.coe_le_coe_iff] at h ⊢
    have h1 := le_trans (le_max_left _ _) h
    have h2 := le_trans (le_max_right _ _) h
    rw [← EReal.coe_zero, coe_max, EReal.coe_eq_coe_iff]
    refine max_eq_right (max_le ?_ ?_) <;> linarith

end Cert.Proof

end
-- ==== Proof.Table.lean ====
/-
  The table of bounds that the host computes before the call, over the extended reals, and the kernel's distance and
  indicator of one pixel by the numbers of its class.
-/
module

public import proofs.«01_k».proof.Proof.Launch
public import proofs.«01_k».proof.Proof.Sums
public import proofs.«01_k».proof.Proof.Values
public import Idealize.ShloMosaic.Lib.Pipeline.Value

@[expose] public section

noncomputable section

namespace Cert.Proof

open Cert.KernelIdeal Cert.KernelIdeal.Gen

open Idealize.ShloMosaic
open Idealize.ShloMosaic.StableHlo
open Idealize.SL Idealize.SL.RA Idealize.SL.BI
open Idealize.SL.Sem

section Arrays

variable {F : FTy → Type} [FloatOps F]

/-- The lines after the two constants and before the last. -/
def boundOps : List (HloOp τ sig (Elt F)) := (preOps.drop 2).take 25

variable (V : Valuation τ sig (Elt F))

/-- The bounds they compute from the means `mu` and the deviations `sd`. -/
def tightOf (sd : FVec F S19 .f32) : IVec S19 1 := cmpf .olt sd (broadcastInDim S19 ![] bcast_S_S19 (constant S_ .f32 0x3DF5C28F#32))
def spreadOf (sd : FVec F S19 .f32) : FVec F S19 .f32 := mulf (broadcastInDim S19 ![] bcast_S_S19 (constant S_ .f32 0x3FC00000#32)) sd
def loOf (mu sd : FVec F S19 .f32) : FVec F S19 .f32 := select (tightOf sd) (subf mu (spreadOf sd)) (broadcastInDim S19 ![] bcast_S_S19 (constant S_ .f32 0xCE6E6B28#32))
def hiOf (mu sd : FVec F S19 .f32) : FVec F S19 .f32 := select (tightOf sd) (addf mu (spreadOf sd)) (broadcastInDim S19 ![] bcast_S_S19 (constant S_ .f32 0x4E6E6B28#32))
/-- The bound that the entries beyond the classes repeat. -/
def padArr : FVec F S13 .f32 := broadcastInDim S13 ![] bcast_S_S13 (constant S_ .f32 0x4E6E6B28#32)

theorem bound_v6 : after boundOps V (Proc.devRef .tc main_v6) = loOf (V (Proc.devRef .tc main_cst)) (V (Proc.devRef .tc main_cst_0)) := by
  unfold boundOps preOps
  simp only [List.drop_succ_cons, List.drop_zero, List.take_succ_cons, List.take_zero]
  after_results_simp
  simp -implicitDefEqProofs only [TRef.ofBuf_toBuf, TRef.toBuf, TRef.ofBuf, cast_eq]
  rfl
theorem bound_v13 : after boundOps V (Proc.devRef .tc main_v13) = hiOf (V (Proc.devRef .tc main_cst)) (V (Proc.devRef .tc main_cst_0)) := by
  unfold boundOps preOps
  simp only [List.drop_succ_cons, List.drop_zero, List.take_succ_cons, List.take_zero]
  after_results_simp
  simp -implicitDefEqProofs only [TRef.ofBuf_toBuf, TRef.toBuf, TRef.ofBuf, cast_eq]
  rfl
theorem bound_v0 : after boundOps V (Proc.devRef .tc main_v0) = padArr (F := F) := by
  unfold boundOps preOps
  simp only [List.drop_succ_cons, List.drop_zero, List.take_succ_cons, List.take_zero]
  after_results_simp
  rfl
theorem bound_v7 : after boundOps V (Proc.devRef .tc main_v7) = Host.negf (padArr (F := F)) := by
  unfold boundOps preOps
  simp only [List.drop_succ_cons, List.drop_zero, List.take_succ_cons, List.take_zero]
  after_results_simp
  rfl

/-- The means and the deviations by class, and their bounds. -/
def muArr : FVec F S19 .f32 := fun i => FloatOps.ofBits .f32 (lit0 (S19.rowMajor i))
def sdArr : FVec F S19 .f32 := fun i => FloatOps.ofBits .f32 (lit1 (S19.rowMajor i))
def loArr : FVec F S19 .f32 := loOf muArr sdArr
def hiArr : FVec F S19 .f32 := hiOf muArr sdArr

/-- The table. -/
def tabArr : S64.Idx → F .f32 :=
  concatenate S64 0 [⟨S19, loArr⟩, ⟨S13, Host.negf padArr⟩, ⟨S19, hiArr⟩, ⟨S13, padArr⟩] concatenates_S19_S13_S19_S13_S64_d0

/-- The last line puts the four pieces together. -/
theorem last_t : after (preOps.drop 27) V tRef = (concatenate S64 0 [⟨S19, (V (Proc.devRef .tc main_v6) : S19.Idx → F .f32)⟩, ⟨S13, (V (Proc.devRef .tc main_v7) : S13.Idx → F .f32)⟩,
    ⟨S19, (V (Proc.devRef .tc main_v13) : S19.Idx → F .f32)⟩, ⟨S13, (V (Proc.devRef .tc main_v0) : S13.Idx → F .f32)⟩] concatenates_S19_S13_S19_S13_S64_d0 : S64.Idx → F .f32) := by
  unfold preOps
  simp only [List.drop_succ_cons, List.drop_zero]
  after_results_simp
  rfl

/-- The table is what the call reads. -/
theorem V1_t (m : (ℓ : Loc nD τ sig) → Buf (Elt F) ℓ) (d : Dev nD) : V1 m d tRef = tabArr := by
  have hs : V1 m d = after (preOps.drop 27) (after boundOps (after (preOps.take 2) (launchContents m d))) := rfl
  have h0 : after (preOps.take 2) (launchContents m d) (Proc.devRef .tc main_cst) = muArr (F := F) := by
    unfold preOps; simp only [List.take_succ_cons, List.take_zero]; after_results_simp; rfl
  have h1 : after (preOps.take 2) (launchContents m d) (Proc.devRef .tc main_cst_0) = sdArr (F := F) := by
    unfold preOps; simp only [List.take_succ_cons, List.take_zero]; after_results_simp; rfl
  rw [hs, last_t]
  refine concatenate_congr _ _ ?_ _ _
  rw [bound_v6, bound_v7, bound_v13, bound_v0, h0, h1]
  rfl

/-- The index of a class, and its place among 32 and in the table. -/
def cls (c : Fin 19) : S19.Idx := fun | 0 => c

theorem tabLo_cls (c : Fin 19) (x : S32.Idx) (hx : (x 0).val = c.val) : tabLo (F := F) tabArr x = loArr (cls c) := by
  unfold tabLo tabArr
  exact concatenate_apply_piece (t := S64) 0 [⟨S19, loArr⟩, ⟨S13, Host.negf padArr⟩, ⟨S19, hiArr⟩, ⟨S13, padArr⟩] concatenates_S19_S13_S19_S13_S64_d0 _ 0 (by show 0 < 4; decide) S19 loArr rfl rfl 0 rfl (cls c)
    (fun b hb => absurd (Subsingleton.elim (α := Fin 1) _ _) hb) (by show 0 + c.val = (x 0).val; omega)

theorem tabHi_cls (c : Fin 19) (x : S32.Idx) (hx : (x 0).val = c.val) : tabHi (F := F) tabArr x = hiArr (cls c) := by
  unfold tabHi tabArr
  exact concatenate_apply_piece (t := S64) 0 [⟨S19, loArr⟩, ⟨S13, Host.negf padArr⟩, ⟨S19, hiArr⟩, ⟨S13, padArr⟩] concatenates_S19_S13_S19_S13_S64_d0 _ 2 (by show 2 < 4; decide) S19 hiArr rfl rfl 32 rfl (cls c)
    (fun b hb => absurd (Subsingleton.elim (α := Fin 1) _ _) hb) (by show 32 + c.val = 32 + (x 0).val; omega)

end Arrays

/-! ## Over the extended reals -/

theorem cmp_lt {x y : EReal} (h : x < y) : Ideal.cmp .olt x y = 1#1 := by simp [Ideal.cmp, h]
theorem cmp_ge {x y : EReal} (h : y ≤ x) : Ideal.cmp .olt x y = 0#1 := by simp [Ideal.cmp, not_lt.2 h]

theorem cls_row (c : Fin 19) : S19.rowMajor (cls c) = c := Fin.ext (Shape.rowMajor_val_one (d := ![19]) (cls c))

theorem half3_bits : Ideal.ofBits .f32 0x3FC00000#32 = ((3 / 2 : ℝ) : EReal) := by rw [ofBits_val (by decide), half3_val]
theorem two_bits : Ideal.ofBits .f32 0x40000000#32 = ((2 : ℝ) : EReal) := by rw [ofBits_val (by decide), two_val]
theorem lim_bits : Ideal.ofBits .f32 0x3DF5C28F#32 = ((val bLim : ℝ) : EReal) := ofBits_val (by decide)
theorem big_bits : Ideal.ofBits .f32 0x4E6E6B28#32 = ((val bBig : ℝ) : EReal) := ofBits_val (by decide)

theorem tight_eq (c : Fin 19) : tightOf (F := Ideal) sdArr (cls c) = Ideal.cmp .olt ((dev c : ℝ) : EReal) ((val bLim : ℝ) : EReal) := by
  show Ideal.cmp .olt (Ideal.ofBits .f32 (lit1 (S19.rowMajor (cls c)))) (Ideal.ofBits .f32 0x3DF5C28F#32) = _
  rw [cls_row, dev_val, lim_bits]
theorem spread_eq (c : Fin 19) : spreadOf (F := Ideal) sdArr (cls c) = ((3 / 2 * dev c : ℝ) : EReal) := by
  show Ideal.ofBits .f32 0x3FC00000#32 * Ideal.ofBits .f32 (lit1 (S19.rowMajor (cls c))) = _
  rw [cls_row, dev_val, half3_bits, ← EReal.coe_mul]

theorem tight_one {c : Fin 19} (h : c.val ≠ 14) : tightOf (F := Ideal) sdArr (cls c) = 1#1 := by
  rw [tight_eq]; exact cmp_lt (EReal.coe_lt_coe_iff.2 (dev_lt h))
theorem tight_zero {c : Fin 19} (h : c.val = 14) : tightOf (F := Ideal) sdArr (cls c) = 0#1 := by
  rw [tight_eq]; exact cmp_ge (EReal.coe_le_coe_iff.2 (dev_ge h))

/-- The bounds of a class of small deviation, -/
theorem loArr_tight {c : Fin 19} (h : c.val ≠ 14) : loArr (F := Ideal) (cls c) = ((mean c - 3 / 2 * dev c : ℝ) : EReal) := by
  show Scalar.select (tightOf (F := Ideal) sdArr (cls c)) (Ideal.ofBits .f32 (lit0 (S19.rowMajor (cls c))) - spreadOf (F := Ideal) sdArr (cls c) : EReal) _ = _
  rw [tight_one h, cls_row, mean_val, spread_eq, ← EReal.coe_sub]
  rfl
theorem hiArr_tight {c : Fin 19} (h : c.val ≠ 14) : hiArr (F := Ideal) (cls c) = ((mean c + 3 / 2 * dev c : ℝ) : EReal) := by
  show Scalar.select (tightOf (F := Ideal) sdArr (cls c)) (Ideal.ofBits .f32 (lit0 (S19.rowMajor (cls c))) + spreadOf (F := Ideal) sdArr (cls c) : EReal) _ = _
  rw [tight_one h, cls_row, mean_val, spread_eq, ← EReal.coe_add]
  rfl
/-- and of the one of large. -/
theorem loArr_wide {c : Fin 19} (h : c.val = 14) : loArr (F := Ideal) (cls c) = -((val bBig : ℝ) : EReal) := by
  show Scalar.select (tightOf (F := Ideal) sdArr (cls c)) _ (Ideal.ofBits .f32 0xCE6E6B28#32) = _
  rw [tight_zero h, ← neg_big]
  rfl
theorem hiArr_wide {c : Fin 19} (h : c.val = 14) : hiArr (F := Ideal) (cls c) = ((val bBig : ℝ) : EReal) := by
  show Scalar.select (tightOf (F := Ideal) sdArr (cls c)) _ (Ideal.ofBits .f32 0x4E6E6B28#32) = _
  rw [tight_zero h, ← big_bits]
  rfl

/-- A pixel's distance outside the bounds of its class, -/
theorem pen1_cls (e : EReal) (v : BitVec 32) (c : Fin 19) (hv : v.toNat = c.val) :
    pen1 (tabLo (F := Ideal) tabArr) (tabHi (F := Ideal) tabArr) e v = max (max (loArr (F := Ideal) (cls c) - e) (e - hiArr (F := Ideal) (cls c))) 0 := by
  have hx : v.toNat % 32 = c.val := by have := c.isLt; omega
  rw [← tabLo_cls c (fun | 0 => ⟨v.toNat % 32, Nat.mod_lt _ (by decide)⟩) hx, ← tabHi_cls c (fun | 0 => ⟨v.toNat % 32, Nat.mod_lt _ (by decide)⟩) hx,
    ← Ideal.ofBits_zero_f32]
  rfl
/-- and the indicator that its upper bound is below two. -/
theorem cnt1_cls (v : BitVec 32) (c : Fin 19) (hv : v.toNat = c.val) :
    cnt1 (tabHi (F := Ideal) tabArr) v = Scalar.select (Ideal.cmp .olt (hiArr (F := Ideal) (cls c)) ((2 : ℝ) : EReal)) 1 0 := by
  have hx : v.toNat % 32 = c.val := by have := c.isLt; omega
  rw [← tabHi_cls c (fun | 0 => ⟨v.toNat % 32, Nat.mod_lt _ (by decide)⟩) hx, ← Ideal.ofBits_zero_f32, ← Ideal.ofBits_one_f32, ← two_bits]
  rfl

/-- For a class of small deviation, that is the part of the distance from its mean above one and a half deviations, counted once; -/
theorem pen1_tight (e : EReal) (v : BitVec 32) (c : Fin 19) (hv : v.toNat = c.val) (h : c.val ≠ 14) :
    pen1 (tabLo (F := Ideal) tabArr) (tabHi (F := Ideal) tabArr) e v
      = max (max (e - ((mean c : ℝ) : EReal)) (-(e - ((mean c : ℝ) : EReal))) - ((3 / 2 * dev c : ℝ) : EReal)) 0 := by
  rw [pen1_cls e v c hv, loArr_tight h, hiArr_tight h, dist_eq]
theorem cnt1_tight (v : BitVec 32) (c : Fin 19) (hv : v.toNat = c.val) (h : c.val ≠ 14) : cnt1 (tabHi (F := Ideal) tabArr) v = 1 := by
  rw [cnt1_cls v c hv, hiArr_tight h, cmp_lt (EReal.coe_lt_coe_iff.2 (upper_lt c))]
  rfl
/-- for the class of large deviation it is zero wherever the pixel is at most a billion in size, and never counted. -/
theorem pen1_wide (e : EReal) (v : BitVec 32) (c : Fin 19) (hv : v.toNat = c.val) (h : c.val = 14) (he : max e (-e) ≤ ((val bBig : ℝ) : EReal)) :
    pen1 (tabLo (F := Ideal) tabArr) (tabHi (F := Ideal) tabArr) e v = 0 := by
  rw [pen1_cls e v c hv, loArr_wide h, hiArr_wide h, dist_zero he]
theorem cnt1_wide (v : BitVec 32) (c : Fin 19) (hv : v.toNat = c.val) (h : c.val = 14) : cnt1 (tabHi (F := Ideal) tabArr) v = 0 := by
  rw [cnt1_cls v c hv, hiArr_wide h, cmp_ge (EReal.coe_le_coe_iff.2 (two_val ▸ two_le_big))]
  rfl

end Cert.Proof

end
-- ==== Proof.Look.lean ====
/-
  The reference's lookup of a table at every pixel's class, read at one pixel.
-/
module

public import proofs.«01_k».proof.Proof.RefRead
public import Idealize.ShloMosaic.Lib.IdealHost
public import Idealize.ShloMosaic.Lib.ReduceAll
public import Idealize.ShloMosaic.Lib.ValueIdxCore
public import Idealize.ShloMosaic.Lib.Pipeline.Value

@[expose] public section

noncomputable section

namespace Cert.Proof.Ref

open Cert.ReferenceIdeal Cert.ReferenceIdeal.Gen

open Idealize.ShloMosaic

/-! ## A flat array read at a flat array of places -/

section Gather

variable {α : Type}

/-- The dimension numbers of `x[i]` for an array `x` of `N` and `M` places `i`, held with an axis of one. -/
abbrev flatDims (N M : ℕ) (wf : GatherDims.WF ⟨1, ![N]⟩ ⟨2, ![M, 1]⟩ ⟨1, ![M]⟩ [] [0] [] [0] [] 1 ![1]) : GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Where the place of entry `y` is held. -/
abbrev flatIdx {M : ℕ} (y : (⟨1, ![M]⟩ : Shape).Idx) : (⟨2, ![M, 1]⟩ : Shape).Idx :=
  fun a => match a with | ⟨0, _⟩ => ⟨(y 0).val, (y 0).isLt⟩ | ⟨1, _⟩ => ⟨0, Nat.one_pos⟩

/-- Entry `y` is the array at that place, brought into the array. -/
theorem gather_flat {N M w : ℕ} (hN : 0 < N) (wf : GatherDims.WF ⟨1, ![N]⟩ ⟨2, ![M, 1]⟩ ⟨1, ![M]⟩ [] [0] [] [0] [] 1 ![1])
    (x : (⟨1, ![N]⟩ : Shape).Idx → α) (i : IVec ⟨2, ![M, 1]⟩ w) (y : (⟨1, ![M]⟩ : Shape).Idx) :
    Host.gather (flatDims N M wf) x i y = x fun | 0 => ⟨min (i (flatIdx y)).toInt.toNat (N - 1), by show _ < N; omega⟩ := by
  unfold Host.gather
  congr 1
  funext a
  obtain rfl : a = 0 := Subsingleton.elim _ _
  refine Fin.ext ?_
  have h0 : (0 : Fin 1) ∈ (flatDims N M wf).startIndexMap := List.mem_singleton.mpr rfl
  have hs : (flatDims N M wf).siIdx y ⟨List.idxOf (0 : Fin 1) (flatDims N M wf).startIndexMap, List.idxOf_lt_length_iff.2 h0⟩ = flatIdx y :=
    funext fun b => match b with
      | ⟨0, _⟩ => Fin.ext rfl
      | ⟨1, _⟩ => Fin.ext rfl
  show (flatDims N M wf).start y i 0 + (flatDims N M wf).batchCoord y 0 + (flatDims N M wf).offCoord y 0 = _
  rw [GatherDims.batchCoord_eq_zero _ _ _ List.not_mem_nil,
    GatherDims.offCoord_eq_zero _ _ _ fun h => ((GatherDims.mem_sKept _ _).mp h).1 (List.mem_singleton.mpr rfl)]
  unfold GatherDims.start
  rw [dif_pos h0, hs]
  rfl

end Gather

/-! ## The words -/

/-- A class as a word is itself clipped to the classes, -/
theorem clip_word {v : BitVec 32} (h : v.toNat < 19) : IntOp.minsi 18#32 (IntOp.maxsi 0#32 v) = v := by
  obtain ⟨n, hn⟩ : ∃ n : Fin 19, v = BitVec.ofNat 32 n.val := ⟨⟨v.toNat, h⟩, by simp⟩
  subst hn; revert n; decide
/-- stays when negative places are counted from the end, -/
theorem wrap_word {v : BitVec 32} (h : v.toNat < 19) : Scalar.select (IntOp.cmpi .slt v 0#32) (IntOp.addi v 19#32) v = v := by
  obtain ⟨n, hn⟩ : ∃ n : Fin 19, v = BitVec.ofNat 32 n.val := ⟨⟨v.toNat, h⟩, by simp⟩
  subst hn; revert n; decide
/-- is in the table, -/
theorem inside_word {v : BitVec 32} (h : v.toNat < 19) : IntOp.andi (IntOp.cmpi .sge v 0#32) (IntOp.cmpi .sle v 18#32) = 1#1 := by
  obtain ⟨n, hn⟩ : ∃ n : Fin 19, v = BitVec.ofNat 32 n.val := ⟨⟨v.toNat, h⟩, by simp⟩
  subst hn; revert n; decide
/-- is the number of its place -/
theorem place_word {v : BitVec 32} (h : v.toNat < 19) : min v.toInt.toNat (19 - 1) = v.toNat := by
  obtain ⟨n, hn⟩ : ∃ n : Fin 19, v = BitVec.ofNat 32 n.val := ⟨⟨v.toNat, h⟩, by simp⟩
  subst hn; revert n; decide
/-- and is not the word of no class. -/
theorem ne_word {v : BitVec 32} (h : v.toNat < 19) : IntOp.cmpi .ne v 4294967295#32 = 1#1 := by
  obtain ⟨n, hn⟩ : ∃ n : Fin 19, v = BitVec.ofNat 32 n.val := ⟨⟨v.toNat, h⟩, by simp⟩
  subst hn; revert n; decide

/-! ## The lookup -/

variable {F : FTy → Type} [FloatOps F]

theorem clipVal_apply (i : IVec S4194304 32) (y : S4194304.Idx) (h : (i y).toNat < 19) : clipVal i y = i y := clip_word h

theorem takeIdx_apply (i : IVec S4194304 32) (x : S4194304x1.Idx) (y : S4194304.Idx) (hx : (x 0).val = (y 0).val) (h : (i y).toNat < 19) :
    takeIdx i x = i y := by
  have e : takeIdx i x = select (cmpi .slt i (broadcastInDim S4194304 ![] bcast_S_S4194304 (constantI S_ 32 0#32)))
      (addi i (broadcastInDim S4194304 ![] bcast_S_S4194304 (constantI S_ 32 19#32))) i y := by
    unfold takeIdx
    exact broadcastInDim_apply _ _ _ _ _ fun a => by
      obtain rfl : a = 0 := Subsingleton.elim (α := Fin 1) _ _
      exact (if_neg (show ¬ S4194304.size 0 = 1 by decide)).symm ▸ hx.symm
  exact e.trans (wrap_word h)

/-- The program's lookup has those dimension numbers. -/
theorem gather_dims : gather_S19_S4194304x1_S4194304_n_0_n_n_0_1_1 = (flatDims 19 4194304 gather_S19_S4194304x1_S4194304_n_0_n_n_0_1_1_wf : GatherDims S19 S4194304x1 S4194304) := by
  unfold gather_S19_S4194304x1_S4194304_n_0_n_n_0_1_1; rfl

/-- So it reads the table at the place, brought into it. -/
theorem gather_apply {α : Type} (t : S19.Idx → α) (p : IVec S4194304x1 32) (y : S4194304.Idx) :
    Host.gather gather_S19_S4194304x1_S4194304_n_0_n_n_0_1_1 t p y
      = t fun | 0 => ⟨min (p (flatIdx y)).toInt.toNat (19 - 1), by show _ < 19; omega⟩ := by
  rw [gather_dims]
  exact (gather_flat (by decide) gather_S19_S4194304x1_S4194304_n_0_n_n_0_1_1_wf t p y).trans (congrArg t (funext fun a => match a with | 0 => rfl))

/-- The entry of a table of nineteen at place `y` of places that are all classes. -/
theorem takeVal_apply (t : FVec F S19 .f32) (i : IVec S4194304 32) (hi : ∀ y, (i y).toNat < 19) (y : S4194304.Idx) :
    takeVal t i y = t fun | 0 => ⟨(i y).toNat, hi y⟩ := by
  have hin : takeIn (takeIdx i) y = 1#1 := by
    refine Host.reduce_andi_one _ _ _ _ y rfl fun x => ?_
    show IntOp.andi (IntOp.cmpi .sge (takeIdx i x) 0#32) (IntOp.cmpi .sle (takeIdx i x) 18#32) = 1#1
    rw [takeIdx_apply i x (fun | 0 => ⟨(x 0).val, (x 0).isLt⟩) rfl (hi _)]
    exact inside_word (hi _)
  have hg : Host.gather gather_S19_S4194304x1_S4194304_n_0_n_n_0_1_1 t (takeIdx i) y = t fun | 0 => ⟨(i y).toNat, hi y⟩ := by
    refine (gather_apply t _ y).trans (congrArg t (funext fun a => ?_))
    obtain rfl : a = 0 := Subsingleton.elim (α := Fin 1) _ _
    refine Fin.ext ?_
    show min (takeIdx i (flatIdx y)).toInt.toNat (19 - 1) = (i y).toNat
    rw [takeIdx_apply i (flatIdx y) y rfl (hi y)]
    exact place_word (hi y)
  unfold takeVal
  show Scalar.select (takeIn (takeIdx i) y) (Host.gather gather_S19_S4194304x1_S4194304_n_0_n_n_0_1_1 t (takeIdx i) y) _ = _
  rw [hin, hg]
  rfl

/-- The entry that a pixel's class names. -/
theorem lookArr_apply (t : FVec F S19 .f32) (s : IVec S16x512x512 32) (hs : ∀ i, (s i).toNat < 19) (i : S16x512x512.Idx) :
    lookArr t s i = t fun | 0 => ⟨(s i).toNat, hs i⟩ := by
  have hflat : ∀ y : S4194304.Idx, ∃ k : S16x512x512.Idx, (S16x512x512.rowMajor k).val = (S4194304.rowMajor y).val := fun y =>
    ⟨S16x512x512.rowMajor.symm ⟨(S4194304.rowMajor y).val, lt_of_lt_of_eq (S4194304.rowMajor y).isLt (by decide)⟩, by rw [Equiv.apply_symm_apply]⟩
  have hc : ∀ y k, (S16x512x512.rowMajor k).val = (S4194304.rowMajor y).val →
      clipVal (shapeCast S4194304 s shapeCasts_S16x512x512_S4194304) y = s k := fun y k h => by
    have e := shapeCast_apply s shapeCasts_S16x512x512_S4194304 y k h
    rw [clipVal_apply _ _ (by rw [e]; exact hs k), e]
  obtain ⟨y, hy⟩ : ∃ y : S4194304.Idx, (S4194304.rowMajor y).val = (S16x512x512.rowMajor i).val :=
    ⟨S4194304.rowMajor.symm ⟨(S16x512x512.rowMajor i).val, lt_of_lt_of_eq (S16x512x512.rowMajor i).isLt (by decide)⟩, by rw [Equiv.apply_symm_apply]⟩
  unfold lookArr
  rw [shapeCast_apply _ _ i y hy, takeVal_apply _ _ (fun y => by obtain ⟨k, hk⟩ := hflat y; rw [hc y k hk]; exact hs k)]
  refine congrArg t (funext fun a => ?_)
  obtain rfl : a = 0 := Subsingleton.elim (α := Fin 1) _ _
  exact Fin.ext (congrArg BitVec.toNat (hc y i hy.symm))

end Cert.Proof.Ref

end
-- ==== Proof.Pixel.lean ====
/-
  The reference's distance and mask of one pixel are the kernel's, over the extended reals.
-/
module

public import proofs.«01_k».proof.Proof.Frames
public import proofs.«01_k».proof.Proof.Table
public import proofs.«01_k».proof.Proof.Look

@[expose] public section

noncomputable section

namespace Cert.Proof

open Cert.KernelIdeal Cert.KernelIdeal.Gen

open Idealize.ShloMosaic
open Idealize.ShloMosaic.StableHlo
open Idealize.SL Idealize.SL.RA Idealize.SL.BI
open Idealize.SL.Sem

/-! ## One pixel -/

theorem cmp_le {x y : EReal} (h : Ideal.cmp .ole x y = 1#1) : x ≤ y := by
  by_contra hn
  simp [Ideal.cmp, hn] at h

theorem bit_one : (FloatOps.uitofp .f32 (1#1 : BitVec 1) : Ideal .f32) = (1 : EReal) := by
  show (((1#1 : BitVec 1).toNat : ℝ) : EReal) = 1
  simp
theorem bit_zero : (FloatOps.uitofp .f32 (0#1 : BitVec 1) : Ideal .f32) = (0 : EReal) := by
  show (((0#1 : BitVec 1).toNat : ℝ) : EReal) = 0
  simp

/-- The reference's mask and distance at a pixel, of any means and deviations there. -/
theorem maskArr_at (s : S16x512x512.Idx → BitVec 32) (sd : S16x512x512.Idx → EReal) (i : S16x512x512.Idx) : Ref.maskArr (F := Ideal) s sd i
    = ((FloatOps.uitofp .f32 (IntOp.cmpi .ne (s i) 4294967295#32) : Ideal .f32) * (FloatOps.uitofp .f32 (Ideal.cmp .olt (sd i) (Ideal.ofBits .f32 0x3DF5C28F#32)) : Ideal .f32) : EReal) := rfl
theorem penArr_at (e mu sd k : S16x512x512.Idx → EReal) (i : S16x512x512.Idx) : mulf (F := Ideal) (φ := .f32) (Ref.penArr (F := Ideal) e mu sd) k i
    = max (max (e i - mu i) (-(e i - mu i)) - Ideal.ofBits .f32 0x3FC00000#32 * sd i) (Ideal.ofBits .f32 0x00000000#32) * k i := rfl

section Pixel

variable (e : S16x512x512.Idx → EReal) (s : S16x512x512.Idx → BitVec 32) (hs : Classes s) (i : S16x512x512.Idx)

/-- The class of the pixel. -/
def clsAt : Fin 19 := ⟨(s i).toNat, hs i⟩

theorem muTab_cls (c : Fin 19) (x : S19.Idx) (hx : (x 0).val = c.val) : Ref.muTab (F := Ideal) x = ((mean c : ℝ) : EReal) := by
  obtain rfl : x = cls c := funext fun a => match a with | 0 => Fin.ext hx
  show Ideal.ofBits .f32 (lit0 (S19.rowMajor (cls c))) = _
  rw [cls_row, mean_val]
theorem sdTab_cls (c : Fin 19) (x : S19.Idx) (hx : (x 0).val = c.val) : Ref.sdTab (F := Ideal) x = ((dev c : ℝ) : EReal) := by
  obtain rfl : x = cls c := funext fun a => match a with | 0 => Fin.ext hx
  show Ideal.ofBits .f32 (lit1 (S19.rowMajor (cls c))) = _
  rw [cls_row, dev_val]

/-- The reference looks up its class's mean and deviation. -/
theorem look_mu : Ref.lookArr (F := Ideal) Ref.muTab s i = ((mean (clsAt s hs i) : ℝ) : EReal) :=
  (Ref.lookArr_apply Ref.muTab s hs i).trans (muTab_cls _ _ rfl)
theorem look_sd : Ref.lookArr (F := Ideal) Ref.sdTab s i = ((dev (clsAt s hs i) : ℝ) : EReal) :=
  (Ref.lookArr_apply Ref.sdTab s hs i).trans (sdTab_cls _ _ rfl)

include hs

/-- The reference's mask is the kernel's indicator. -/
theorem mask_eq : Ref.maskArr (F := Ideal) s (Ref.lookArr Ref.sdTab s) i = cnt1 (tabHi (F := Ideal) tabArr) (s i) := by
  rw [maskArr_at, Ref.ne_word (hs i), look_sd s hs i, lim_bits, bit_one]
  by_cases h : (clsAt s hs i).val = 14
  · rw [cmp_ge (EReal.coe_le_coe_iff.2 (dev_ge h)), bit_zero, cnt1_wide (s i) (clsAt s hs i) rfl h, mul_zero]
  · rw [cmp_lt (EReal.coe_lt_coe_iff.2 (dev_lt h)), bit_one, cnt1_tight (s i) (clsAt s hs i) rfl h, mul_one]

/-- The reference's masked distance is the kernel's. -/
theorem dist_pixel (hb : s i = 14#32 → max (e i) (-(e i)) ≤ ((val bBig : ℝ) : EReal)) :
    mulf (F := Ideal) (φ := .f32) (Ref.penArr (F := Ideal) e (Ref.lookArr Ref.muTab s) (Ref.lookArr Ref.sdTab s)) (Ref.maskArr s (Ref.lookArr Ref.sdTab s)) i
      = pen1 (tabLo (F := Ideal) tabArr) (tabHi (F := Ideal) tabArr) (e i) (s i) := by
  rw [penArr_at, mask_eq s hs i]
  by_cases h : (clsAt s hs i).val = 14
  · rw [cnt1_wide (s i) (clsAt s hs i) rfl h, pen1_wide (e i) (s i) (clsAt s hs i) rfl h (hb (BitVec.eq_of_toNat_eq h)), mul_zero]
  · rw [cnt1_tight (s i) (clsAt s hs i) rfl h, pen1_tight (e i) (s i) (clsAt s hs i) rfl h, look_mu s hs i, look_sd s hs i, half3_bits,
      Ideal.ofBits_zero_f32, ← EReal.coe_mul, mul_one]

end Pixel

end Cert.Proof

end
-- ==== Proof.Halves.lean ====
/-
  The host's last lines: the two halves of the partial sums, added up over the extended reals.
-/
module

public import proofs.«01_k».proof.Proof.Frames
public import proofs.«01_k».proof.Proof.Table

@[expose] public section

noncomputable section

namespace Cert.Proof

open Cert.KernelIdeal Cert.KernelIdeal.Gen

open Idealize.ShloMosaic
open Idealize.ShloMosaic.StableHlo
open Idealize.SL Idealize.SL.RA Idealize.SL.BI
open Idealize.SL.Sem

/-- The kernel's result: the mean of the two halves of the partial sums. -/
theorem V3_r (m : (ℓ : Loc nD τ sig) → Buf (Elt Ideal) ℓ) (d : Dev nD) : V3 m d rRef
    = Ref.meanVal (F := Ideal)
      (Host.reduceAdd (extractStridedSlice S512 ![0] (sums m d : S1024.Idx → Ideal .f32) slices_S1024_S512_0) (constant S_ .f32 0x00000000#32) reducesTo_S512_S_d0 h_S_)
      (Host.reduceAdd (extractStridedSlice S512 ![512] (sums m d : S1024.Idx → Ideal .f32) slices_S1024_S512_512) (constant S_ .f32 0x00000000#32) reducesTo_S512_S_d0 h_S_) := by
  rw [← V2_o]
  unfold V3 postOps
  after_results_simp
  simp -implicitDefEqProofs only [TRef.ofBuf_toBuf, TRef.toBuf, TRef.ofBuf, cast_eq]
  rfl

/-- A sum over all of an array, from zero. -/
theorem reduce_total {t : Shape} {axes : List (Fin t.rank)} (x : FVec Ideal t .f32) (h : t.ReducesTo axes S_) (hu : 0 < S_.numel) (j : S_.Idx) :
    Host.reduceAdd x (constant S_ .f32 0x00000000#32) h hu j = (∑ i, x i : EReal) := by
  refine (Ideal.hostReduceAdd_total h (fun b => b.elim0) x _ j).trans ?_
  show (Ideal.ofBits .f32 0x00000000#32 : EReal) + _ = _
  rw [Ideal.ofBits_zero_f32, zero_add]

variable (ft : S64.Idx → EReal) (fe : S16x1x512x512.Idx → EReal) (fs : S16x512x512.Idx → BitVec 32)

/-- The first half of the partial sums adds up to all pixels' distances, -/
theorem half_pen (h : S16x1x512x512.ShapeCasts S16x512x512) (j : S_.Idx) :
    Host.reduceAdd (extractStridedSlice S512 ![0] (partials (F := Ideal) ft fe fs) slices_S1024_S512_0) (constant S_ .f32 0x00000000#32) reducesTo_S512_S_d0 h_S_ j
      = ∑ i : S16x512x512.Idx, pen1 (tabLo (F := Ideal) ft) (tabHi (F := Ideal) ft) (shapeCast S16x512x512 fe h i) (fs i) := by
  rw [reduce_total, ← sum_pen]
  refine sum_idx S512 _ (fun n => workPen (F := Ideal) ft fe fs (n / 16) (lane16 n)) fun i => ?_
  have hi : (i 0).val < 512 := (i 0).isLt
  rw [Shape.rowMajor_val_one (d := ![512]) i, extractStridedSlice_apply ![0] (partials (F := Ideal) ft fe fs) slices_S1024_S512_0 i
    (fun | 0 => ⟨(i 0).val, lt_trans hi (by decide)⟩) fun a => match a with | 0 => (Nat.zero_add _).symm]
  exact if_pos hi
/-- the second to their counts. -/
theorem half_cnt (j : S_.Idx) :
    Host.reduceAdd (extractStridedSlice S512 ![512] (partials (F := Ideal) ft fe fs) slices_S1024_S512_512) (constant S_ .f32 0x00000000#32) reducesTo_S512_S_d0 h_S_ j
      = ∑ i : S16x512x512.Idx, cnt1 (tabHi (F := Ideal) ft) (fs i) := by
  rw [reduce_total, ← sum_cnt ft fe fs]
  refine sum_idx S512 _ (fun n => workCnt (F := Ideal) ft fe fs (n / 16) (lane16 n)) fun i => ?_
  have hi : (i 0).val < 512 := (i 0).isLt
  have hl : lane16 (512 + (i 0).val) = lane16 (i 0).val := funext fun a => match a with
    | 0 => Fin.ext (by show (512 + (i 0).val) % 16 = (i 0).val % 16; omega)
  rw [Shape.rowMajor_val_one (d := ![512]) i, extractStridedSlice_apply ![512] (partials (F := Ideal) ft fe fs) slices_S1024_S512_512 i
    (fun | 0 => ⟨512 + (i 0).val, by show 512 + (i 0).val < 1024; omega⟩) fun a => match a with | 0 => rfl]
  refine (if_neg (show ¬ 512 + (i 0).val < 512 by omega)).trans ?_
  show workCnt (F := Ideal) ft fe fs ((512 + (i 0).val - 512) / 16) (lane16 (512 + (i 0).val)) = _
  rw [hl, Nat.add_sub_cancel_left]

end Cert.Proof

end
-- ==== Proof.Algebra.lean ====
/-
  The kernel's result is the reference's, over the extended reals.
-/
module

public import proofs.«01_k».proof.Proof.Frames
public import proofs.«01_k».proof.Proof.Pixel
public import proofs.«01_k».proof.Proof.Halves

@[expose] public section

noncomputable section

namespace Cert.Proof

open Cert.KernelIdeal Cert.KernelIdeal.Gen

open Idealize.ShloMosaic
open Idealize.ShloMosaic.StableHlo
open Idealize.SL Idealize.SL.RA Idealize.SL.BI
open Idealize.SL.Sem

/-- From arguments of the bounded precondition the kernel's result is the masked mean that the reference computes. -/
theorem result_eq (m : (ℓ : Loc nD τ sig) → Buf (Elt Ideal) ℓ) (d : Dev nD)
    (h : Cert.Pre_bounded.fn (F := Ideal) (m (eLoc d)) (m (sLoc d)) = fun _ => 1#1) :
    V3 m d rRef = Ref.result (F := Ideal) (m (eLoc d)) (m (sLoc d)) := by
  have hs : Classes (m (sLoc d)) := classes_of_bounded h
  have hm : sums m d = partials (F := Ideal) tabArr (m (eLoc d)) (m (sLoc d)) := by unfold sums; rw [V1_t, V1_e, V1_s]
  rw [V3_r, hm]
  unfold Ref.result
  refine congrArg₂ (Ref.meanVal (F := Ideal)) (funext fun j => ?_) (funext fun j => ?_)
  · rw [half_pen _ _ _ Cert.ReferenceIdeal.Gen.shapeCasts_S16x1x512x512_S16x512x512]
    refine Eq.trans ?_ (reduce_total _ _ _ j).symm
    exact Finset.sum_congr rfl fun i _ => (dist_pixel _ _ hs i fun h14 => big_bits ▸ cmp_le (size_of_bounded h i h14)).symm
  · rw [half_cnt]
    refine Eq.trans ?_ (reduce_total _ _ _ j).symm
    exact Finset.sum_congr rfl fun i _ => (mask_eq _ hs i).symm

/-- The value claim: from equal arguments of the bounded precondition, kernel and reference end with equal results. -/
theorem algebraic : Cert.algebraic_KernelIdeal_ReferenceIdeal_pre_bounded := fun m g m' g' h hm =>
  ⟨fun c => V3 m c rRef,
    θ_run_mono (run_main (F := Ideal) m g (classOK fun d => classes_of_bounded (h d))) fun _ hr c => ⟨(hr.1 c).2.2, (hr.1 c).1, (hr.1 c).2.1⟩,
    θ_run_mono (Ref.run_main (F := Ideal) m' g') fun _ hr c =>
      ⟨(hr.1 c _).trans ((Ref.result_of _).trans ((congrArg₂ (Ref.result (F := Ideal)) (hm c).1 (hm c).2).trans (result_eq m c (h c)).symm)),
        (hr.1 c _).trans (Ref.arg0_eq _), (hr.1 c _).trans (Ref.arg1_eq _)⟩⟩

end Cert.Proof

end
-- ==== Proof.lean ====
/-
  The claims, proved.
-/
module

public import proofs.«01_k».proof.Defs
public import proofs.«01_k».proof.Proof.Algebra

@[expose] public section

namespace Cert.Proof

/-- The kernel, its idealization and the reference run to the end, the idealization keeps the kernel's meaning, and over
    the extended reals kernel and reference compute the same result. -/
theorem claim : Cert.Claim :=
  ⟨Cert.Kernel.Gen.facts, Cert.KernelIdeal.Gen.facts, Cert.ReferenceIdeal.Gen.facts, Cert.Pre_classes.Gen.facts, boundedFacts,
    frame_kernel, frame_kernelIdeal, frame_kernelIdeal_bounded, frame_referenceIdeal, frame_referenceIdeal_bounded, trivial, algebraic⟩

end Cert.Proof
